-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distances_in_range [hPre_distances_in_range : Cert.Pre_distances_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_distances_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distances_in_range [hPre_distances_in_range : Cert.Pre_distances_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distances_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_distances_in_range [hKernelIdeal : Cert.KernelIdeal.Facts] [hPre_distances_in_range : Cert.Pre_distances_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distances_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_distances_in_range [hReferenceIdeal : Cert.ReferenceIdeal.Facts] [hPre_distances_in_range : Cert.Pre_distances_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distances_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_distances_in_range [hKernelIdeal : Cert.KernelIdeal.Facts] [hReferenceIdeal : Cert.ReferenceIdeal.Facts] [hPre_distances_in_range : Cert.Pre_distances_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distances_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_distances_in_range : Cert.Pre_distances_in_range.Facts),
    quiescent_Kernel (hKernel := hKernel)
    ∧ quiescent_KernelIdeal (hKernelIdeal := hKernelIdeal)
    ∧ quiescent_KernelIdeal_pre_distances_in_range (hKernelIdeal := hKernelIdeal) (hPre_distances_in_range := hPre_distances_in_range)
    ∧ quiescent_ReferenceIdeal (hReferenceIdeal := hReferenceIdeal)
    ∧ quiescent_ReferenceIdeal_pre_distances_in_range (hReferenceIdeal := hReferenceIdeal) (hPre_distances_in_range := hPre_distances_in_range)
    ∧ preserves_Kernel_KernelIdeal
    ∧ algebraic_KernelIdeal_ReferenceIdeal_pre_distances_in_range (hKernelIdeal := hKernelIdeal) (hReferenceIdeal := hReferenceIdeal) (hPre_distances_in_range := hPre_distances_in_range)
-- ==== Pre_distances_in_range.lean ====
abbrev S16x1024x128 : Shape := ⟨3, ![16, 1024, 128]⟩
abbrev S16x1024 : Shape := ⟨2, ![16, 1024]⟩
abbrev S16x1024x1024 : Shape := ⟨3, ![16, 1024, 1024]⟩
abbrev S1x1x128 : Shape := ⟨3, ![1, 1, 128]⟩
abbrev S6x128 : Shape := ⟨2, ![6, 128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x128 .f32) (main_arg1 : IVec S16x1024 1) (main_arg2 : IVec S16x1024x1024 32) (main_arg3 : FVec F S1x1x128 .f32) (main_arg4 : FVec F S6x128 .f32) (main_arg5 : FVec F S128x256 .f32) (main_arg6 : FVec F S256 .f32) (main_arg7 : FVec F S256x1 .f32) (main_arg8 : FVec F S1 .f32) : IVec S_ 1 :=
  let main_c : IVec S_ 32 := constantI S_ 32 0#32
  let main_v0 : IVec S16x1024x1024 32 := broadcastInDim S16x1024x1024 ![] bcast_S_S16x1024x1024 main_c
  let main_v1 : IVec S16x1024x1024 1 := cmpi .sge main_arg2 main_v0
  let main_c_0 : IVec S_ 32 := constantI S_ 32 9998#32
  let main_v2 : IVec S16x1024x1024 32 := broadcastInDim S16x1024x1024 ![] bcast_S_S16x1024x1024 main_c_0
  let main_v3 : IVec S16x1024x1024 1 := cmpi .ne main_arg2 main_v2
  let main_v4 : IVec S16x1024x1024 1 := andi main_v1 main_v3
  let main_c_1 : IVec S_ 32 := constantI S_ 32 2147483647#32
  let main_v5 : IVec S16x1024x1024 32 := broadcastInDim S16x1024x1024 ![] bcast_S_S16x1024x1024 main_c_1
  let main_v6 : IVec S16x1024x1024 1 := cmpi .ne main_arg2 main_v5
  let main_v7 : IVec S16x1024x1024 1 := andi main_v4 main_v6
  let main_c_2 : IVec S_ 1 := constantI S_ 1 1#1
  let main_v8 : IVec S_ 1 := (fun x v => Host.reduce IntOp.andi x v reducesTo_S16x1024x1024_S_d0_1_2 h_S_) main_v7 main_c_2
  main_v8
-- ==== Kernel.lean ====
abbrev S16x1024x128 : Shape := ⟨3, ![16, 1024, 128]⟩
abbrev S16x1024 : Shape := ⟨2, ![16, 1024]⟩
abbrev S16x1024x1024 : Shape := ⟨3, ![16, 1024, 1024]⟩
abbrev S1x1x128 : Shape := ⟨3, ![1, 1, 128]⟩
abbrev S6x128 : Shape := ⟨2, ![6, 128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S16x1x1024 : Shape := ⟨3, ![16, 1, 1024]⟩
abbrev S1024x16 : Shape := ⟨2, ![1024, 16]⟩
abbrev S1x256 : Shape := ⟨2, ![1, 256]⟩
abbrev S1x1 : Shape := ⟨2, ![1, 1]⟩
abbrev S1025x16x128 : Shape := ⟨3, ![1025, 16, 128]⟩
abbrev S1025x16x1025 : Shape := ⟨3, ![1025, 16, 1025]⟩
abbrev S16x104x1024 : Shape := ⟨3, ![16, 104, 1024]⟩
abbrev S16x8x1024 : Shape := ⟨3, ![16, 8, 1024]⟩
abbrev S104x16 : Shape := ⟨2, ![104, 16]⟩
abbrev S8x16 : Shape := ⟨2, ![8, 16]⟩
abbrev S16x104x128 : Shape := ⟨3, ![16, 104, 128]⟩
abbrev S16x8x128 : Shape := ⟨3, ![16, 8, 128]⟩
abbrev S104x16x128 : Shape := ⟨3, ![104, 16, 128]⟩
abbrev S104x16x1025 : Shape := ⟨3, ![104, 16, 1025]⟩
abbrev S1x16 : Shape := ⟨2, ![1, 16]⟩
abbrev S16x1x128 : Shape := ⟨3, ![16, 1, 128]⟩
abbrev S6x256 : Shape := ⟨2, ![6, 256]⟩
abbrev S6 : Shape := ⟨1, ![6]⟩
abbrev S6x1 : Shape := ⟨2, ![6, 1]⟩
abbrev S16x103x1024 : Shape := ⟨3, ![16, 103, 1024]⟩
abbrev S104x16x1024 : Shape := ⟨3, ![104, 16, 1024]⟩
abbrev S103x16 : Shape := ⟨2, ![103, 16]⟩
abbrev S104x16x1 : Shape := ⟨3, ![104, 16, 1]⟩
abbrev S16x103x128 : Shape := ⟨3, ![16, 103, 128]⟩
abbrev S1x16x1024 : Shape := ⟨3, ![1, 16, 1024]⟩
abbrev S1x16x1 : Shape := ⟨3, ![1, 16, 1]⟩
abbrev S1x16x128 : Shape := ⟨3, ![1, 16, 128]⟩
abbrev S16x1025x128 : Shape := ⟨3, ![16, 1025, 128]⟩
abbrev S16x1025x1025 : Shape := ⟨3, ![16, 1025, 1025]⟩
abbrev S_ : Shape := ⟨0, ![]⟩
abbrev S16x1 : Shape := ⟨2, ![16, 1]⟩
abbrev S16x1025 : Shape := ⟨2, ![16, 1025]⟩

abbrev nBuf : Space → Nat
  | .hbm => 22
  | .vmem => 22
  | .smem => 0
  | _ => 0

abbrev bufTy : (tb : Table) → Fin (tcTables nBuf tb) → BufTy
  | .hbm, ⟨0, _⟩ => ⟨S16x1024x128, .f32⟩
  | .hbm, ⟨1, _⟩ => ⟨S16x1024, .i1⟩
  | .hbm, ⟨2, _⟩ => ⟨S16x1024x1024, .i32⟩
  | .hbm, ⟨3, _⟩ => ⟨S1x1x128, .f32⟩
  | .hbm, ⟨4, _⟩ => ⟨S6x128, .f32⟩
  | .hbm, ⟨5, _⟩ => ⟨S128x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S16x1x1024, .i32⟩
  | .hbm, ⟨10, _⟩ => ⟨S16x1024, .i32⟩
  | .hbm, ⟨11, _⟩ => ⟨S1024x16, .i32⟩
  | .hbm, ⟨12, _⟩ => ⟨S1x256, .f32⟩
  | .hbm, ⟨13, _⟩ => ⟨S1x256, .f32⟩
  | .hbm, ⟨14, _⟩ => ⟨S1x1, .f32⟩
  | .hbm, ⟨15, _⟩ => ⟨S1025x16x128, .f32⟩
  | .hbm, ⟨16, _⟩ => ⟨S1025x16x1025, .f32⟩
  | .hbm, ⟨17, _⟩ => ⟨S16x1025x128, .f32⟩
  | .hbm, ⟨18, _⟩ => ⟨S16x1025x1025, .f32⟩
  | .hbm, ⟨19, _⟩ => ⟨S_, .i1⟩
  | .hbm, ⟨20, _⟩ => ⟨S16x1, .i1⟩
  | .hbm, ⟨21, _⟩ => ⟨S16x1025, .i1⟩
  | .local _ .vmem, ⟨0, _⟩ => ⟨S16x104x1024, .i32⟩
  | .local _ .vmem, ⟨1, _⟩ => ⟨S16x104x1024, .i32⟩
  | .local _ .vmem, ⟨2, _⟩ => ⟨S16x8x1024, .i32⟩
  | .local _ .vmem, ⟨3, _⟩ => ⟨S16x8x1024, .i32⟩
  | .local _ .vmem, ⟨4, _⟩ => ⟨S104x16, .i32⟩
  | .local _ .vmem, ⟨5, _⟩ => ⟨S104x16, .i32⟩
  | .local _ .vmem, ⟨6, _⟩ => ⟨S8x16, .i32⟩
  | .local _ .vmem, ⟨7, _⟩ => ⟨S8x16, .i32⟩
  | .local _ .vmem, ⟨8, _⟩ => ⟨S16x104x128, .f32⟩
  | .local _ .vmem, ⟨9, _⟩ => ⟨S16x104x128, .f32⟩
  | .local _ .vmem, ⟨10, _⟩ => ⟨S16x8x128, .f32⟩
  | .local _ .vmem, ⟨11, _⟩ => ⟨S16x8x128, .f32⟩
  | .local _ .vmem, ⟨12, _⟩ => ⟨S1x1x128, .f32⟩
  | .local _ .vmem, ⟨13, _⟩ => ⟨S6x128, .f32⟩
  | .local _ .vmem, ⟨14, _⟩ => ⟨S128x256, .f32⟩
  | .local _ .vmem, ⟨15, _⟩ => ⟨S1x256, .f32⟩
  | .local _ .vmem, ⟨16, _⟩ => ⟨S1x256, .f32⟩
  | .local _ .vmem, ⟨17, _⟩ => ⟨S1x1, .f32⟩
  | .local _ .vmem, ⟨18, _⟩ => ⟨S104x16x128, .f32⟩
  | .local _ .vmem, ⟨19, _⟩ => ⟨S104x16x128, .f32⟩
  | .local _ .vmem, ⟨20, _⟩ => ⟨S104x16x1025, .f32⟩
  | .local _ .vmem, ⟨21, _⟩ => ⟨S104x16x1025, .f32⟩
  | _, _ => ⟨S16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c13_i32 : BitVec 32 := 13#32
  let v0 : BitVec 32 := Scalar.muli c13_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c13_i32 : BitVec 32 := 13#32
  let v0 : BitVec 32 := Scalar.muli c13_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c13_i32 : BitVec 32 := 13#32
  let v0 : BitVec 32 := Scalar.muli c13_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x104x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S104x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x104x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S104x16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S104x16x1025 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16x1024x128 : Shape := ⟨3, ![16, 1024, 128]⟩
abbrev S16x1024 : Shape := ⟨2, ![16, 1024]⟩
abbrev S16x1024x1024 : Shape := ⟨3, ![16, 1024, 1024]⟩
abbrev S1x1x128 : Shape := ⟨3, ![1, 1, 128]⟩
abbrev S6x128 : Shape := ⟨2, ![6, 128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S16x1x128 : Shape := ⟨3, ![16, 1, 128]⟩
abbrev S16x1025x128 : Shape := ⟨3, ![16, 1025, 128]⟩
abbrev S16x1x1024 : Shape := ⟨3, ![16, 1, 1024]⟩
abbrev S_ : Shape := ⟨0, ![]⟩
abbrev S16x1025x1025 : Shape := ⟨3, ![16, 1025, 1025]⟩
abbrev S2 : Shape := ⟨1, ![2]⟩
abbrev S16 : Shape := ⟨1, ![16]⟩
abbrev S16x1 : Shape := ⟨2, ![16, 1]⟩
abbrev S16x1025 : Shape := ⟨2, ![16, 1025]⟩
abbrev S6x256 : Shape := ⟨2, ![6, 256]⟩
abbrev S1x256 : Shape := ⟨2, ![1, 256]⟩
abbrev S6x1 : Shape := ⟨2, ![6, 1]⟩
abbrev S1x1 : Shape := ⟨2, ![1, 1]⟩
abbrev S6 : Shape := ⟨1, ![6]⟩
abbrev S7 : Shape := ⟨1, ![7]⟩
abbrev S16x1025x1025x1 : Shape := ⟨4, ![16, 1025, 1025, 1]⟩

abbrev nBuf : Space → Nat
  | .hbm => 92
  | .vmem => 0
  | .smem => 0
  | _ => 0

abbrev bufTy : (tb : Table) → Fin (tcTables nBuf tb) → BufTy
  | .hbm, ⟨0, _⟩ => ⟨S16x1024x128, .f32⟩
  | .hbm, ⟨1, _⟩ => ⟨S16x1024, .i1⟩
  | .hbm, ⟨2, _⟩ => ⟨S16x1024x1024, .i32⟩
  | .hbm, ⟨3, _⟩ => ⟨S1x1x128, .f32⟩
  | .hbm, ⟨4, _⟩ => ⟨S6x128, .f32⟩
  | .hbm, ⟨5, _⟩ => ⟨S128x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S16x1x128, .f32⟩
  | .hbm, ⟨10, _⟩ => ⟨S16x1025x128, .f32⟩
  | .hbm, ⟨11, _⟩ => ⟨S16x1x1024, .i32⟩
  | .hbm, ⟨12, _⟩ => ⟨S16x1024, .i32⟩
  | .hbm, ⟨13, _⟩ => ⟨S_, .i32⟩
  | .hbm, ⟨14, _⟩ => ⟨S16x1024, .i32⟩
  | .hbm, ⟨15, _⟩ => ⟨S16x1024, .i1⟩
  | .hbm, ⟨16, _⟩ => ⟨S_, .i32⟩
  | .hbm, ⟨17, _⟩ => ⟨S16x1024, .i32⟩
  | .hbm, ⟨18, _⟩ => ⟨S16x1024, .i32⟩
  | .hbm, ⟨19, _⟩ => ⟨S_, .i32⟩
  | .hbm, ⟨20, _⟩ => ⟨S_, .i32⟩
  | .hbm, ⟨21, _⟩ => ⟨S16x1024, .i32⟩
  | .hbm, ⟨22, _⟩ => ⟨S16x1024, .i32⟩
  | .hbm, ⟨23, _⟩ => ⟨S_, .i32⟩
  | .hbm, ⟨24, _⟩ => ⟨S16x1025x1025, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S16x1025x1025, .i32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S16x1025x1025, .i32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S16x1025x1025, .i32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S_, .i32⟩
  | .hbm, ⟨49, _⟩ => ⟨S16, .i32⟩
  | .hbm, ⟨50, _⟩ => ⟨S16x1025x1025, .i32⟩
  | .hbm, ⟨51, _⟩ => ⟨S_, .i1⟩
  | .hbm, ⟨52, _⟩ => ⟨S16x1, .i1⟩
  | .hbm, ⟨53, _⟩ => ⟨S16x1025, .i1⟩
  | .hbm, ⟨54, _⟩ => ⟨S6x256, .f32⟩
  | .hbm, ⟨55, _⟩ => ⟨S1x256, .f32⟩
  | .hbm, ⟨56, _⟩ => ⟨S6x256, .f32⟩
  | .hbm, ⟨57, _⟩ => ⟨S6x256, .f32⟩
  | .hbm, ⟨58, _⟩ => ⟨S_, .f32⟩
  | .hbm, ⟨59, _⟩ => ⟨S6x256, .f32⟩
  | .hbm, ⟨60, _⟩ => ⟨S6x256, .f32⟩
  | .hbm, ⟨61, _⟩ => ⟨S6x1, .f32⟩
  | .hbm, ⟨62, _⟩ => ⟨S1x1, .f32⟩
  | .hbm, ⟨63, _⟩ => ⟨S6x1, .f32⟩
  | .hbm, ⟨64, _⟩ => ⟨S6x1, .f32⟩
  | .hbm, ⟨65, _⟩ => ⟨S6, .f32⟩
  | .hbm, ⟨66, _⟩ => ⟨S_, .f32⟩
  | .hbm, ⟨67, _⟩ => ⟨S1, .f32⟩
  | .hbm, ⟨68, _⟩ => ⟨S7, .f32⟩
  | .hbm, ⟨69, _⟩ => ⟨S_, .i32⟩
  | .hbm, ⟨70, _⟩ => ⟨S16x1025x1025, .i32⟩
  | .hbm, ⟨71, _⟩ => ⟨S16x1025x1025, .i1⟩
  | .hbm, ⟨72, _⟩ => ⟨S_, .i32⟩
  | .hbm, ⟨73, _⟩ => ⟨S16x1025x1025, .i32⟩
  | .hbm, ⟨74, _⟩ => ⟨S16x1025x1025, .i1⟩
  | .hbm, ⟨75, _⟩ => ⟨S_, .i32⟩
  | .hbm, ⟨76, _⟩ => ⟨S_, .i32⟩
  | .hbm, ⟨77, _⟩ => ⟨S16x1025x1025, .i32⟩
  | .hbm, ⟨78, _⟩ => ⟨S16x1025x1025, .i32⟩
  | .hbm, ⟨79, _⟩ => ⟨S_, .i32⟩
  | .hbm, ⟨80, _⟩ => ⟨S_, .i32⟩
  | .hbm, ⟨81, _⟩ => ⟨S16x1025x1025, .i32⟩
  | .hbm, ⟨82, _⟩ => ⟨S16x1025x1025, .i32⟩
  | .hbm, ⟨83, _⟩ => ⟨S_, .i32⟩
  | .hbm, ⟨84, _⟩ => ⟨S16x1025x1025, .i32⟩
  | .hbm, ⟨85, _⟩ => ⟨S16x1025x1025, .i1⟩
  | .hbm, ⟨86, _⟩ => ⟨S_, .i32⟩
  | .hbm, ⟨87, _⟩ => ⟨S16x1025x1025, .i32⟩
  | .hbm, ⟨88, _⟩ => ⟨S16x1025x1025, .i32⟩
  | .hbm, ⟨89, _⟩ => ⟨S16x1025x1025, .i32⟩
  | .hbm, ⟨90, _⟩ => ⟨S16x1025x1025x1, .i32⟩
  | .hbm, ⟨91, _⟩ => ⟨S16x1025x1025, .f32⟩
  | _, _ => ⟨S16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_c_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_7 : Ref sig .tc := ⟨.hbm, 37, rfl⟩
abbrev main_v18 : Ref sig .tc := ⟨.hbm, 38, rfl⟩
abbrev main_c_8 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_9 : Ref sig .tc := ⟨.hbm, 43, rfl⟩
abbrev main_v22 : Ref sig .tc := ⟨.hbm, 44, rfl⟩
abbrev main_c_10 : Ref sig .tc := ⟨.hbm, 45, rfl⟩
abbrev main_v23 : Ref sig .tc := ⟨.hbm, 46, rfl⟩
abbrev main_v24 : Ref sig .tc := ⟨.hbm, 47, rfl⟩
abbrev main_c_11 : Ref sig .tc := ⟨.hbm, 48, rfl⟩
abbrev main_v25 : Ref sig .tc := ⟨.hbm, 49, rfl⟩
abbrev main_v26 : Ref sig .tc := ⟨.hbm, 50, rfl⟩
abbrev main_c_12 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_cst : Ref sig .tc := ⟨.hbm, 58, rfl⟩
abbrev main_call1_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst : Ref sig .tc := ⟨.hbm, 66, rfl⟩
abbrev main_v39 : Ref sig .tc := ⟨.hbm, 67, rfl⟩
abbrev main_v40 : Ref sig .tc := ⟨.hbm, 68, rfl⟩
abbrev main_c_13 : Ref sig .tc := ⟨.hbm, 69, rfl⟩
abbrev main_v41 : Ref sig .tc := ⟨.hbm, 70, rfl⟩
abbrev main_v42 : Ref sig .tc := ⟨.hbm, 71, rfl⟩
abbrev main_c_14 : Ref sig .tc := ⟨.hbm, 72, rfl⟩
abbrev main_v43 : Ref sig .tc := ⟨.hbm, 73, rfl⟩
abbrev main_v44 : Ref sig .tc := ⟨.hbm, 74, rfl⟩
abbrev main_c_15 : Ref sig .tc := ⟨.hbm, 75, rfl⟩
abbrev main_call2_v0 : Ref sig .tc := ⟨.hbm, 76, rfl⟩
abbrev main_call2_v1 : Ref sig .tc := ⟨.hbm, 77, rfl⟩
abbrev main_v45 : Ref sig .tc := ⟨.hbm, 78, rfl⟩
abbrev main_c_16 : Ref sig .tc := ⟨.hbm, 79, rfl⟩
abbrev main_call3_v0 : Ref sig .tc := ⟨.hbm, 80, rfl⟩
abbrev main_call3_v1 : Ref sig .tc := ⟨.hbm, 81, rfl⟩
abbrev main_v46 : Ref sig .tc := ⟨.hbm, 82, rfl⟩
abbrev main_c_17 : Ref sig .tc := ⟨.hbm, 83, rfl⟩
abbrev main_v47 : Ref sig .tc := ⟨.hbm, 84, rfl⟩
abbrev main_v48 : Ref sig .tc := ⟨.hbm, 85, rfl⟩
abbrev main_c_18 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩

abbrev nD : Nat := 1
abbrev τ : Topo := Topo.v7x

variable {F : FTy → Type} [FloatOps F]
-- ==== Proof.Body.lean ====
/- One run of the kernel's body at symbolic staging buffers: what the two output buffers hold after it, as the list of
   the rectangles stored and the values stored there, for any float values. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the twelve input buffers hold: the distances and the eight rows before them, the first row of the distances
    (as a column) and the eight entries before them, the features and the eight rows before them, the test token, and
    the five parameters of the two-layer network. -/
structure Blk (F : FTy → Type) where
  dm : Vec F S16x104x1024 .i32
  dmP : Vec F S16x8x1024 .i32
  r0 : Vec F S104x16 .i32
  r0P : Vec F S8x16 .i32
  ft : Vec F S16x104x128 .f32
  ftP : Vec F S16x8x128 .f32
  tst : Vec F S1x1x128 .f32
  cb : Vec F S6x128 .f32
  w1 : Vec F S128x256 .f32
  b1 : Vec F S1x256 .f32
  w2 : Vec F S1x256 .f32
  b2 : Vec F S1x1 .f32

namespace Blk

variable (X : Blk F) (i : grid0.Coords)

/-- The row of distances before the block's own: the array's first at the first point, else the last of the eight. -/
def prevDm : Vec F S16x1x1024 .i32 :=
  k0_pay4 i (View.ld X.dmP (Rect.unit (s := S16x8x1024) ![0, 0, 0] S16x1x1024.size inb_S16x8x1024_S16x1x1024_0_0_0))
    (View.ld X.dmP (Rect.unit (s := S16x8x1024) ![0, 7, 0] S16x1x1024.size inb_S16x8x1024_S16x1x1024_0_7_0))

/-- The entry of the first row before the block's own, likewise. -/
def prevR0 : IVec S1x16 32 :=
  k0_pay5 i (View.ld X.r0P (Rect.unit (s := S8x16) ![0, 0] S1x16.size inb_S8x16_S1x16_0_0))
    (View.ld X.r0P (Rect.unit (s := S8x16) ![7, 0] S1x16.size inb_S8x16_S1x16_7_0))

/-- The row of features before the block's own, likewise. -/
def prevFt : Vec F S16x1x128 .f32 :=
  k0_pay6 i (View.ld X.ftP (Rect.unit (s := S16x8x128) ![0, 0, 0] S16x1x128.size inb_S16x8x128_S16x1x128_0_0_0))
    (View.ld X.ftP (Rect.unit (s := S16x8x128) ![0, 7, 0] S16x1x128.size inb_S16x8x128_S16x1x128_0_7_0))

/-- The hidden layer of the network, each unit times its weight in the second layer. -/
def hid : FVec F S6x256 .f32 :=
  k0_pay7 (View.ld X.cb (Rect.unit (s := S6x128) ![0, 0] S6x128.size inb_S6x128_S6x128_0_0))
    (View.ld X.w1 (Rect.unit (s := S128x256) ![0, 0] S128x256.size inb_S128x256_S128x256_0_0))
    (View.ld X.b1 (Rect.unit (s := S1x256) ![0, 0] S1x256.size inb_S1x256_S1x256_0_0))
    (View.ld X.w2 (Rect.unit (s := S1x256) ![0, 0] S1x256.size inb_S1x256_S1x256_0_0))

/-- The bias of the second layer, as loaded. -/
def bias2 : Vec F S1x1 .f32 := View.ld X.b2 (Rect.unit (s := S1x1) ![0, 0] S1x1.size inb_S1x1_S1x1_0_0)

/-- The six scalars that the network gives. -/
def s0 : F .f32 := k0_pay9 X.hid X.bias2
/-- The kernel's scalar 1. -/
def s1 : F .f32 := k0_pay10 X.hid X.bias2
/-- The kernel's scalar 2. -/
def s2 : F .f32 := k0_pay11 X.hid X.bias2
/-- The kernel's scalar 3. -/
def s3 : F .f32 := k0_pay12 X.hid X.bias2
/-- The kernel's scalar 4. -/
def s4 : F .f32 := k0_pay13 X.hid X.bias2
/-- The kernel's scalar 5. -/
def s5 : F .f32 := k0_pay14 X.hid X.bias2

/-- What every point stores to the bias block, the last first: its first column, and the rest. -/
def biasBase : List (View.Piece (Elt F) S104x16x1025 .f32) :=
  [⟨Rect.unit (s := S104x16x1025) ![0, 0, 0] S104x16x1.size inb_S104x16x1025_S104x16x1_0_0_0,
      k0_pay16 (X.prevR0 i) X.s1 X.s2 X.s3 X.s4 X.s5
        (View.ld X.r0 (Rect.unit (s := S104x16) ![0, 0] S103x16.size inb_S104x16_S103x16_0_0))⟩,
    ⟨Rect.unit (s := S104x16x1025) ![0, 0, 1] S104x16x1024.size inb_S104x16x1025_S104x16x1024_0_0_1,
      k0_pay15 (X.prevDm i) X.hid X.bias2
        (View.ld X.dm (Rect.unit (s := S16x104x1024) ![0, 0, 0] S16x103x1024.size inb_S16x104x1024_S16x103x1024_0_0_0))⟩]

/-- What the first point stores over it: the corner, and the rest of the first row. -/
def biasTop : List (View.Piece (Elt F) S104x16x1025 .f32) :=
  [⟨Rect.unit (s := S104x16x1025) ![0, 0, 0] S1x16x1.size inb_S104x16x1025_S1x16x1_0_0_0, k0_pay2 X.s0⟩,
    ⟨Rect.unit (s := S104x16x1025) ![0, 0, 1] S1x16x1024.size inb_S104x16x1025_S1x16x1024_0_0_1,
      k0_pay1 (X.prevDm i) X.s1 X.s2 X.s3 X.s4 X.s5⟩]

/-- What every point stores to the block of features: all of it. -/
def featBase : List (View.Piece (Elt F) S104x16x128 .f32) :=
  [⟨Rect.unit (s := S104x16x128) ![0, 0, 0] S104x16x128.size inb_S104x16x128_S104x16x128_0_0_0,
      k0_pay17 (X.prevFt i)
        (View.ld X.ft (Rect.unit (s := S16x104x128) ![0, 0, 0] S16x103x128.size inb_S16x104x128_S16x103x128_0_0_0))⟩]

/-- What the first point stores over it: its first row, the test token. -/
def featTop : List (View.Piece (Elt F) S104x16x128 .f32) :=
  [⟨Rect.unit (s := S104x16x128) ![0, 0, 0] S1x16x128.size inb_S104x16x128_S1x16x128_0_0_0,
      k0_pay3 (View.ld X.tst (Rect.unit (s := S1x1x128) ![0, 0, 0] S1x1x128.size inb_S1x1x128_S1x1x128_0_0_0))⟩]

end Blk

/-- The body's condition: this is the first point. -/
abbrev first (i : grid0.Coords) : Prop :=
  Scalar.cmpi .ne (Scalar.extui (Scalar.cmpi .eq (BitVec.ofNat 32 (i 0).val) 0#32)) 0#32 = (1#1 : BitVec 1)

/-- The pieces that point `i` stores to the block of features, the last first. -/
def Blk.featPieces (X : Blk F) (i : grid0.Coords) : List (View.Piece (Elt F) S104x16x128 .f32) :=
  if first i then X.featTop ++ X.featBase i else X.featBase i

/-- The pieces that point `i` stores to the bias block, the last first. -/
def Blk.biasPieces (X : Blk F) (i : grid0.Coords) : List (View.Piece (Elt F) S104x16x1025 .f32) :=
  if first i then X.biasTop i ++ X.biasBase i else X.biasBase i

/-- The twelve input buffers hold `X`. -/
def ins (c : Dev nD) (X : Blk F) (M1 : Memref sig .tc .vmem S16x104x1024 .i32) (M2 : Memref sig .tc .vmem S16x8x1024 .i32)
    (M3 : Memref sig .tc .vmem S104x16 .i32) (M4 : Memref sig .tc .vmem S8x16 .i32)
    (M5 : Memref sig .tc .vmem S16x104x128 .f32) (M6 : Memref sig .tc .vmem S16x8x128 .f32)
    (M7 : Memref sig .tc .vmem S1x1x128 .f32) (M8 : Memref sig .tc .vmem S6x128 .f32)
    (M9 : Memref sig .tc .vmem S128x256 .f32) (M10 : Memref sig .tc .vmem S1x256 .f32)
    (M11 : Memref sig .tc .vmem S1x256 .f32) (M12 : Memref sig .tc .vmem S1x1 .f32) : sProp 𝕄 :=
  iprop(owns (c : Thread nD τ) M1 fullShare X.dm ∗ owns (c : Thread nD τ) M2 fullShare X.dmP
    ∗ owns (c : Thread nD τ) M3 fullShare X.r0 ∗ owns (c : Thread nD τ) M4 fullShare X.r0P
    ∗ owns (c : Thread nD τ) M5 fullShare X.ft ∗ owns (c : Thread nD τ) M6 fullShare X.ftP
    ∗ owns (c : Thread nD τ) M7 fullShare X.tst ∗ owns (c : Thread nD τ) M8 fullShare X.cb
    ∗ owns (c : Thread nD τ) M9 fullShare X.w1 ∗ owns (c : Thread nD τ) M10 fullShare X.b1
    ∗ owns (c : Thread nD τ) M11 fullShare X.w2 ∗ owns (c : Thread nD τ) M12 fullShare X.b2)

set_option maxHeartbeats 4000000 in
/-- From the input buffers at `X` and the two output buffers at anything, the body runs to its return and leaves the
    inputs as they were and the outputs overwritten by the pieces listed. -/
theorem run_body (c : Dev nD) (i : grid0.Coords) (X : Blk F)
    (M1 : Memref sig .tc .vmem S16x104x1024 .i32) (h1 : M1.IsWhole) (M2 : Memref sig .tc .vmem S16x8x1024 .i32) (h2 : M2.IsWhole)
    (M3 : Memref sig .tc .vmem S104x16 .i32) (h3 : M3.IsWhole) (M4 : Memref sig .tc .vmem S8x16 .i32) (h4 : M4.IsWhole)
    (M5 : Memref sig .tc .vmem S16x104x128 .f32) (h5 : M5.IsWhole) (M6 : Memref sig .tc .vmem S16x8x128 .f32) (h6 : M6.IsWhole)
    (M7 : Memref sig .tc .vmem S1x1x128 .f32) (h7 : M7.IsWhole) (M8 : Memref sig .tc .vmem S6x128 .f32) (h8 : M8.IsWhole)
    (M9 : Memref sig .tc .vmem S128x256 .f32) (h9 : M9.IsWhole) (M10 : Memref sig .tc .vmem S1x256 .f32) (h10 : M10.IsWhole)
    (M11 : Memref sig .tc .vmem S1x256 .f32) (h11 : M11.IsWhole) (M12 : Memref sig .tc .vmem S1x1 .f32) (h12 : M12.IsWhole)
    (M13 : Memref sig .tc .vmem S104x16x128 .f32) (h13 : M13.IsWhole) (M14 : Memref sig .tc .vmem S104x16x1025 .f32) (h14 : M14.IsWhole)
    (D13 : Vec F S104x16x128 .f32) (D14 : Vec F S104x16x1025 .f32) (E : Set ℕ) (K : PUnit → sProp 𝕄) :
    iprop(ins c X M1 M2 M3 M4 M5 M6 M7 M8 M9 M10 M11 M12
      ∗ owns (c : Thread nD τ) M13 fullShare D13 ∗ owns (c : Thread nD τ) M14 fullShare D14
      ∗ (iprop(ins c X M1 M2 M3 M4 M5 M6 M7 M8 M9 M10 M11 M12
          ∗ (∃ f, M13.view.loc (c : Thread nD τ) ↦[M13.view.set]{fullShare} M13.view.writes (Elt F) f (X.featPieces i))
          ∗ (∃ f, M14.view.loc (c : Thread nD τ) ↦[M14.view.set]{fullShare} M14.view.writes (Elt F) f (X.biasPieces i))) -∗ K ⟨⟩))
    ⊢ wp frame (wpE (defs₀ (F := F)) Variants.none c none) E
        (cc0__block_kernel i M1 h1 M2 h2 M3 h3 M4 h4 M5 h5 M6 h6 M7 h7 M8 h8 M9 h9 M10 h10 M11 h11 M12 h12 M13 h13 M14 h14) K := by
  obtain ⟨x1, x2, x3, x4, x5, x6, x7, x8, x9, x10, x11, x12⟩ := X
  unfold ins owns Blk.featPieces Blk.biasPieces
  by_cases hi : first i
  all_goals
    first | rw [if_pos hi, if_pos hi] | rw [if_neg hi, if_neg hi]
  all_goals
    simp only [cc0__block_kernel_eq_skeleton]; unfold cc0__block_kernel_skel
    simp only [k0_part1_eq_skeleton, k0_part2_eq_skeleton, k0_part3_eq_skeleton]
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨%f13, %e13, H13⟩, ⟨%f14, %e14, H14⟩, Hk⟩
    subst e1 e2 e3 e4 e5 e6 e7 e8 e9 e10 e11 e12
    sl_exec (disch := sl_exact hi)
    sl_step
    iapply Hk
    isplitl [H1 H2 H3 H4 H5 H6 H7 H8 H9 H10 H11 H12]
    · isplitl [H1]; · iexists f1; isplitr; · ipureintro; rfl
                      iexact H1
      isplitl [H2]; · iexists f2; isplitr; · ipureintro; rfl
                      iexact H2
      isplitl [H3]; · iexists f3; isplitr; · ipureintro; rfl
                      iexact H3
      isplitl [H4]; · iexists f4; isplitr; · ipureintro; rfl
                      iexact H4
      isplitl [H5]; · iexists f5; isplitr; · ipureintro; rfl
                      iexact H5
      isplitl [H6]; · iexists f6; isplitr; · ipureintro; rfl
                      iexact H6
      isplitl [H7]; · iexists f7; isplitr; · ipureintro; rfl
                      iexact H7
      isplitl [H8]; · iexists f8; isplitr; · ipureintro; rfl
                      iexact H8
      isplitl [H9]; · iexists f9; isplitr; · ipureintro; rfl
                      iexact H9
      isplitl [H10]; · iexists f10; isplitr; · ipureintro; rfl
                       iexact H10
      isplitl [H11]; · iexists f11; isplitr; · ipureintro; rfl
                       iexact H11
      iexists f12; isplitr; · ipureintro; rfl
      iexact H12
    isplitl [H13]
    · iexists f13; iexact H13
    · iexists f14; iexact H14

end Cert.KernelIdeal.Own

end
-- ==== Proof.Blocks.lean ====
/- What one run of the body leaves, element by element, in terms of the whole arrays: the block of the features with the
   test token before them, and the block of the bias. For any float values. -/
module

public import proofs.«01_k».proof.Proof.Body
public import Idealize.ShloMosaic.Lib.PointwiseCore

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

variable {F : FTy → Type} [FloatOps F]

/-- The whole arrays that the region reads: the distances, their first row as a column per batch, the features, the test
    token, and the parameters of the network. -/
structure Arr (F : FTy → Type) where
  dm : Vec F S16x1024x1024 .i32
  r0 : Vec F S1024x16 .i32
  ft : Vec F S16x1024x128 .f32
  tst : Vec F S1x1x128 .f32
  cb : Vec F S6x128 .f32
  w1 : Vec F S128x256 .f32
  b1 : Vec F S1x256 .f32
  w2 : Vec F S1x256 .f32
  b2 : Vec F S1x1 .f32

/-- The bias of an entry of the border with distance `x`, from the six scalars: the distance is one more there, so the
    scalar is the next one. -/
def border (s1 s2 s3 s4 s5 : F .f32) (x : BitVec 32) : F .f32 :=
  Scalar.select (Scalar.cmpi .eq x 9999#32) s5 (Scalar.select (Scalar.cmpi .eq x 0#32) s1
    (Scalar.select (Scalar.cmpi .eq x 1#32) s2 (Scalar.select (Scalar.cmpi .eq x 2#32) s3
      (Scalar.select (Scalar.cmpi .eq x 3#32) s4 (Scalar.ofBits .f32 0x00000000#32)))))

/-- The bias of an entry off the border with distance `x`. -/
def interior (s0 s1 s2 s3 s4 s5 : F .f32) (x : BitVec 32) : F .f32 :=
  Scalar.select (Scalar.cmpi .eq x 9999#32) s5 (Scalar.select (Scalar.cmpi .eq x 0#32) s0
    (Scalar.select (Scalar.cmpi .eq x 1#32) s1 (Scalar.select (Scalar.cmpi .eq x 2#32) s2
      (Scalar.select (Scalar.cmpi .eq x 3#32) s3 (Scalar.select (Scalar.cmpi .eq x 4#32) s4
        (Scalar.ofBits .f32 0x00000000#32))))))

namespace Arr

variable (A : Arr F)

/-- The network's six scalars before they are taken apart: the hidden layer, weighted. -/
def hid : FVec F S6x256 .f32 := k0_pay7 A.cb A.w1 A.b1 A.w2

/-- Row `p` of the features with the test token before them. -/
def featAt (p : Fin 1025) (b : Fin 16) (l : Fin 128) : F .f32 :=
  if h : p.val = 0 then A.tst (ix3 0 0 l) else A.ft (ix3 b ⟨p.val - 1, by omega⟩ l)

/-- The bias off the border. -/
def inAt (b : Fin 16) (p q : Fin 1024) : F .f32 :=
  interior (k0_pay9 A.hid A.b2) (k0_pay10 A.hid A.b2) (k0_pay11 A.hid A.b2) (k0_pay12 A.hid A.b2) (k0_pay13 A.hid A.b2)
    (k0_pay14 A.hid A.b2) (A.dm (ix3 b p q))

/-- The bias on the border, of a distance. -/
def edge (x : BitVec 32) : F .f32 :=
  border (k0_pay10 A.hid A.b2) (k0_pay11 A.hid A.b2) (k0_pay12 A.hid A.b2) (k0_pay13 A.hid A.b2) (k0_pay14 A.hid A.b2) x

/-- The bias at row `p` and column `q`: the corner is the first scalar, the first row and the first column are the border,
    the rest is off it. -/
def biasAt (p : Fin 1025) (b : Fin 16) (q : Fin 1025) : F .f32 :=
  if hp : p.val = 0 then
    if hq : q.val = 0 then k0_pay9 A.hid A.b2 else A.edge (A.dm (ix3 b 0 ⟨q.val - 1, by omega⟩))
  else if hq : q.val = 0 then A.edge (A.r0 (ix2 ⟨p.val - 1, by omega⟩ b))
  else A.inAt b ⟨p.val - 1, by omega⟩ ⟨q.val - 1, by omega⟩

/-- The array of features with the test token before them, rows first. -/
def featOut : Vec F S1025x16x128 .f32 := fun j => A.featAt (j 0) (j 1) (j 2)

/-- The bias array, rows first. -/
def biasOut : Vec F S1025x16x1025 .f32 := fun j => A.biasAt (j 0) (j 1) (j 2)

end Arr

/-- The input buffers hold the blocks of the whole arrays at point `r`, as far as the body's results depend on them. -/
structure Blk.At (X : Blk F) (A : Arr F) (r : ℕ) : Prop where
  dm : ∀ (b : Fin 16) (k : Fin 104) (c : Fin 1024) (p : Fin 1024), p.val = 104 * r + k.val → X.dm (ix3 b k c) = A.dm (ix3 b p c)
  dmP : ∀ (b : Fin 16) (c : Fin 1024) (p : Fin 1024), p.val + 1 = 104 * r → X.dmP (ix3 b 7 c) = A.dm (ix3 b p c)
  dmP0 : r = 0 → ∀ (b : Fin 16) (c : Fin 1024), X.dmP (ix3 b 0 c) = A.dm (ix3 b 0 c)
  r0 : ∀ (k : Fin 104) (b : Fin 16) (p : Fin 1024), p.val = 104 * r + k.val → X.r0 (ix2 k b) = A.r0 (ix2 p b)
  r0P : ∀ (b : Fin 16) (p : Fin 1024), p.val + 1 = 104 * r → X.r0P (ix2 7 b) = A.r0 (ix2 p b)
  ft : ∀ (b : Fin 16) (k : Fin 104) (l : Fin 128) (p : Fin 1024), p.val = 104 * r + k.val → X.ft (ix3 b k l) = A.ft (ix3 b p l)
  ftP : ∀ (b : Fin 16) (l : Fin 128) (p : Fin 1024), p.val + 1 = 104 * r → X.ftP (ix3 b 7 l) = A.ft (ix3 b p l)
  tst : X.tst = A.tst
  cb : X.cb = A.cb
  w1 : X.w1 = A.w1
  b1 : X.b1 = A.b1
  w2 : X.w2 = A.w2
  b2 : X.b2 = A.b2

/-- The comparison of the grid coordinate with zero, as the body makes it. -/
theorem cmp_zero (n : ℕ) (hn : n < 10) :
    Scalar.cmpi .eq (BitVec.ofNat 32 n) 0#32 = if n = 0 then 1#1 else 0#1 := by
  interval_cases n <;> rfl

/-- The body's test for the first point, as a statement about the grid coordinate. -/
theorem first_iff (i : grid0.Coords) : first i ↔ (i 0).val = 0 := by
  have h : (i 0).val < 10 := (i 0).isLt
  unfold first
  rw [cmp_zero _ h]
  split <;> simp_all <;> decide

section
variable {X : Blk F} {A : Arr F} {i : grid0.Coords} (h : X.At A (i 0).val)
include h

/-- The blocks' weighted hidden layer is the whole arrays'. -/
theorem hid_eq : X.hid = A.hid := by
  unfold Blk.hid Arr.hid
  rw [View.ld_unit_zero (by funext a; fin_cases a <;> rfl), View.ld_unit_zero (by funext a; fin_cases a <;> rfl),
    View.ld_unit_zero (by funext a; fin_cases a <;> rfl), View.ld_unit_zero (by funext a; fin_cases a <;> rfl),
    h.cb, h.w1, h.b1, h.w2]

/-- The blocks' last shift is the whole arrays'. -/
theorem bias2_eq : X.bias2 = A.b2 := by
  unfold Blk.bias2
  rw [View.ld_unit_zero (by funext a; fin_cases a <;> rfl), h.b2]

/-- At a point other than the first, the body takes the last of the eight rows before its block. -/
theorem not_first (hi0 : (i 0).val ≠ 0) : Scalar.cmpi .eq (BitVec.ofNat 32 (i 0).val) 0#32 = 0#1 := by
  rw [cmp_zero _ (i 0).isLt, if_neg hi0]

/-- Row `k` of a block of the bias, off the first column and not the array's first row. -/
theorem pay15_at (k : Fin 104) (b : Fin 16) (c : Fin 1024) (hp : 104 * (i 0).val + k.val < 1025) (hp0 : 104 * (i 0).val + k.val ≠ 0) :
    k0_pay15 (X.prevDm i) X.hid X.bias2
        (View.ld X.dm (Rect.unit (s := S16x104x1024) ![0, 0, 0] S16x103x1024.size inb_S16x104x1024_S16x103x1024_0_0_0)) (ix3 k b c)
      = A.inAt b ⟨104 * (i 0).val + k.val - 1, by omega⟩ c := by
  have hi : (i 0).val < 10 := (i 0).isLt
  rw [hid_eq h, bias2_eq h]
  unfold Arr.inAt interior
  obtain rfl | hk := eq_or_ne k 0
  · have hi0 : (i 0).val ≠ 0 := by simpa using hp0
    rw [← h.dmP b c ⟨104 * (i 0).val + (0 : Fin 104).val - 1, by omega⟩ (by simp; omega)]
    pointwise [k0_pay15, Blk.prevDm, k0_pay4, not_first h hi0]
    rfl
  · have hk' : k.val ≠ 0 := fun e => hk (Fin.ext e)
    have hk1 : ¬ k.val < 1 := by omega
    rw [← h.dm b ⟨k.val - 1, by omega⟩ c ⟨104 * (i 0).val + k.val - 1, by omega⟩ (by simp; omega)]
    pointwise [k0_pay15, Blk.prevDm, k0_pay4, hk1]
    rfl

/-- Row `k` of the first column of a block of the bias, not the array's first row. -/
theorem pay16_at (k : Fin 104) (b : Fin 16) (hp : 104 * (i 0).val + k.val < 1025) (hp0 : 104 * (i 0).val + k.val ≠ 0) :
    k0_pay16 (X.prevR0 i) X.s1 X.s2 X.s3 X.s4 X.s5
        (View.ld X.r0 (Rect.unit (s := S104x16) ![0, 0] S103x16.size inb_S104x16_S103x16_0_0)) (ix3 k b 0)
      = A.edge (A.r0 (ix2 ⟨104 * (i 0).val + k.val - 1, by omega⟩ b)) := by
  have hi : (i 0).val < 10 := (i 0).isLt
  unfold Blk.s1 Blk.s2 Blk.s3 Blk.s4 Blk.s5
  rw [hid_eq h, bias2_eq h]
  unfold Arr.edge border
  obtain rfl | hk := eq_or_ne k 0
  · have hi0 : (i 0).val ≠ 0 := by simpa using hp0
    rw [← h.r0P b ⟨104 * (i 0).val + (0 : Fin 104).val - 1, by omega⟩ (by simp; omega)]
    pointwise [k0_pay16, Blk.prevR0, k0_pay5, not_first h hi0]
    rfl
  · have hk' : k.val ≠ 0 := fun e => hk (Fin.ext e)
    have hk1 : ¬ k.val < 1 := by omega
    rw [← h.r0 ⟨k.val - 1, by omega⟩ b ⟨104 * (i 0).val + k.val - 1, by omega⟩ (by simp; omega)]
    pointwise [k0_pay16, Blk.prevR0, k0_pay5, hk1]
    rfl

/-- Row `k` of a block of the features, not the array's first row. -/
theorem pay17_at (k : Fin 104) (b : Fin 16) (l : Fin 128) (hp : 104 * (i 0).val + k.val < 1025) (hp0 : 104 * (i 0).val + k.val ≠ 0) :
    k0_pay17 (X.prevFt i)
        (View.ld X.ft (Rect.unit (s := S16x104x128) ![0, 0, 0] S16x103x128.size inb_S16x104x128_S16x103x128_0_0_0)) (ix3 k b l)
      = A.ft (ix3 b ⟨104 * (i 0).val + k.val - 1, by omega⟩ l) := by
  have hi : (i 0).val < 10 := (i 0).isLt
  obtain rfl | hk := eq_or_ne k 0
  · have hi0 : (i 0).val ≠ 0 := by simpa using hp0
    rw [← h.ftP b l ⟨104 * (i 0).val + (0 : Fin 104).val - 1, by omega⟩ (by simp; omega)]
    pointwise [k0_pay17, Blk.prevFt, k0_pay6, not_first h hi0]
  · have hk' : k.val ≠ 0 := fun e => hk (Fin.ext e)
    have hk1 : ¬ k.val < 1 := by omega
    rw [← h.ft b ⟨k.val - 1, by omega⟩ l ⟨104 * (i 0).val + k.val - 1, by omega⟩ (by simp; omega)]
    pointwise [k0_pay17, Blk.prevFt, k0_pay6, hk1]

/-- The first row of the bias, off the corner. -/
theorem pay1_at (hi0 : (i 0).val = 0) (b : Fin 16) (c : Fin 1024) :
    k0_pay1 (X.prevDm i) X.s1 X.s2 X.s3 X.s4 X.s5 (ix3 0 b c) = A.edge (A.dm (ix3 b 0 c)) := by
  unfold Blk.s1 Blk.s2 Blk.s3 Blk.s4 Blk.s5
  rw [hid_eq h, bias2_eq h]
  unfold Arr.edge border
  rw [← h.dmP0 hi0 b c]
  pointwise [k0_pay1, Blk.prevDm, k0_pay4, hi0]
  rfl

/-- The corner of the bias. -/
theorem pay2_at (b : Fin 16) : k0_pay2 X.s0 (ix3 0 b 0) = k0_pay9 A.hid A.b2 := by
  unfold Blk.s0
  rw [hid_eq h, bias2_eq h]
  pointwise [k0_pay2]

/-- The first row of the features: the test token. -/
theorem pay3_at (b : Fin 16) (l : Fin 128) :
    k0_pay3 (View.ld X.tst (Rect.unit (s := S1x1x128) ![0, 0, 0] S1x1x128.size inb_S1x1x128_S1x1x128_0_0_0)) (ix3 0 b l)
      = A.tst (ix3 0 0 l) := by
  rw [← h.tst]
  pointwise [k0_pay3]

variable (M : Memref sig .tc .vmem S104x16x1025 .f32) (f : M.view.ty.Contents (Elt F))

/-- Elements inside the array of what every point stores to the bias block. -/
theorem biasBase_at (k : Fin 104) (b : Fin 16) (q : Fin 1025) (hp : 104 * (i 0).val + k.val < 1025)
    (hp0 : 104 * (i 0).val + k.val ≠ 0) :
    M.view.read (Elt F) (M.view.writes (Elt F) f (X.biasBase i)) (ix3 k b q) = A.biasAt ⟨104 * (i 0).val + k.val, hp⟩ b q := by
  unfold Blk.biasBase Arr.biasAt
  rw [dif_neg hp0]
  by_cases hq : q.val = 0
  · rw [dif_pos hq, View.read_writes_cons_hit_of_coords M.view f _ _ _ (ix3 k b 0) _ (by intro a; fin_cases a <;> simp [hq])]
    exact pay16_at h k b hp hp0
  · rw [dif_neg hq, View.read_writes_cons_miss_of_axis M.view f _ _ _ 2 0 1 rfl rfl rfl (.inr (by show 0 + 1 ≤ q.val; omega)),
      View.read_writes_cons_hit_of_coords M.view f _ _ _ (ix3 k b ⟨q.val - 1, by omega⟩) _
        (by intro a; fin_cases a <;> simp; omega)]
    exact pay15_at h k b ⟨q.val - 1, by omega⟩ hp hp0

/-- Elements inside the array of what a point leaves in the bias block. -/
theorem biasPieces_at (k : Fin 104) (b : Fin 16) (q : Fin 1025) (hp : 104 * (i 0).val + k.val < 1025) :
    M.view.read (Elt F) (M.view.writes (Elt F) f (X.biasPieces i)) (ix3 k b q) = A.biasAt ⟨104 * (i 0).val + k.val, hp⟩ b q := by
  unfold Blk.biasPieces
  by_cases hi : first i
  · have hi0 := (first_iff i).mp hi
    rw [if_pos hi]
    unfold Blk.biasTop
    by_cases hk : k.val = 0
    · obtain rfl : k = 0 := Fin.ext hk
      unfold Arr.biasAt
      rw [dif_pos (by simp [hi0])]
      by_cases hq : q.val = 0
      · rw [dif_pos hq]
        refine (View.read_writes_cons_hit_of_coords M.view f _ _ _ (ix3 0 b 0) _ (by intro a; fin_cases a <;> simp [hq])).trans ?_
        exact pay2_at h b
      · rw [dif_neg hq]
        refine (View.read_writes_cons_miss_of_axis M.view f _ _ _ 2 0 1 rfl rfl rfl (.inr (by show 0 + 1 ≤ q.val; omega))).trans ?_
        refine (View.read_writes_cons_hit_of_coords M.view f _ _ _ (ix3 0 b ⟨q.val - 1, by omega⟩) _
          (by intro a; fin_cases a <;> simp; omega)).trans ?_
        exact pay1_at h hi0 b _
    · refine (View.read_writes_cons_miss_of_axis M.view f _ _ _ 0 0 1 rfl rfl rfl (.inr (by show 0 + 1 ≤ k.val; omega))).trans ?_
      refine (View.read_writes_cons_miss_of_axis M.view f _ _ _ 0 0 1 rfl rfl rfl (.inr (by show 0 + 1 ≤ k.val; omega))).trans ?_
      exact biasBase_at h M f k b q hp (by omega)
  · rw [if_neg hi]
    exact biasBase_at h M f k b q hp (by have := mt (first_iff i).mpr hi; omega)

omit M f in
variable (M : Memref sig .tc .vmem S104x16x128 .f32) (f : M.view.ty.Contents (Elt F)) in
/-- Elements inside the array of what a point leaves in the block of features. -/
theorem featPieces_at (k : Fin 104) (b : Fin 16) (l : Fin 128) (hp : 104 * (i 0).val + k.val < 1025) :
    M.view.read (Elt F) (M.view.writes (Elt F) f (X.featPieces i)) (ix3 k b l) = A.featAt ⟨104 * (i 0).val + k.val, hp⟩ b l := by
  have base : 104 * (i 0).val + k.val ≠ 0 → M.view.read (Elt F) (M.view.writes (Elt F) f (X.featBase i)) (ix3 k b l)
      = A.featAt ⟨104 * (i 0).val + k.val, hp⟩ b l := fun hp0 => by
    unfold Blk.featBase Arr.featAt
    rw [dif_neg hp0]
    refine (View.read_writes_cons_hit_of_coords M.view f _ _ _ (ix3 k b l) _ (by intro a; fin_cases a <;> simp)).trans ?_
    exact pay17_at h k b l hp hp0
  unfold Blk.featPieces
  by_cases hi : first i
  · have hi0 := (first_iff i).mp hi
    rw [if_pos hi]
    unfold Blk.featTop
    by_cases hk : k.val = 0
    · obtain rfl : k = 0 := Fin.ext hk
      unfold Arr.featAt
      rw [dif_pos (by simp [hi0])]
      refine (View.read_writes_cons_hit_of_coords M.view f _ _ _ (ix3 0 b l) _ (by intro a; fin_cases a <;> simp)).trans ?_
      exact pay3_at h b l
    · refine (View.read_writes_cons_miss_of_axis M.view f _ _ _ 0 0 1 rfl rfl rfl (.inr (by show 0 + 1 ≤ k.val; omega))).trans ?_
      exact base (by omega)
  · rw [if_neg hi]
    exact base (by have := mt (first_iff i).mpr hi; omega)

end

end Cert.KernelIdeal.Own

end
-- ==== Proof.Data.lean ====
/- The proof data of the region: what every staging buffer holds after the body at every point, and that the blocks the
   body finds are the blocks of the whole arrays. For any float values. -/
module

public import proofs.«01_k».proof.Proof.Blocks

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The whole arrays as the region finds them. -/
def arrOf (c : Dev nD) : Arr F where
  dm := V m c main_arg2
  r0 := V m c main_v2
  ft := V m c main_arg0
  tst := V m c main_arg3
  cb := V m c main_arg4
  w1 := V m c main_arg5
  b1 := V m c main_v3
  w2 := V m c main_v4
  b2 := V m c main_v5

/-- The features' output array. -/
def featArr (c : Dev nD) : Buf (Elt F) ((c : Thread nD τ).loc main_v6_0) := (arrOf m c).featOut
/-- The features' block at point `t`. -/
def featBlk (c : Dev nD) (t : Fin cfg0.N) : (win0_12.xblock (grid0.coords t)).Idx → Elt F .f32 :=
  (win0_12.blk t).view.read (Elt F) (featArr m c)
/-- The bias's output array. -/
def biasArr (c : Dev nD) : Buf (Elt F) ((c : Thread nD τ).loc main_v6_1) := (arrOf m c).biasOut
/-- The bias's block at point `t`. -/
def biasBlk (c : Dev nD) (t : Fin cfg0.N) : (win0_13.xblock (grid0.coords t)).Idx → Elt F .f32 :=
  (win0_13.blk t).view.read (Elt F) (biasArr m c)

/-- The proof data of the region on device `c`'s TensorCore. Past an array's end, where nothing is stated, the filler is
    the zero word. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => (0#32 : BitVec 32)) (iblk m c 0 t)
    | ⟨1, _⟩ => iblk m c 1 t
    | ⟨2, _⟩ => win0_2.fill (grid0.coords t) (fun _ => (0#32 : BitVec 32)) (iblk m c 2 t)
    | ⟨3, _⟩ => iblk m c 3 t
    | ⟨4, _⟩ => win0_4.fill (grid0.coords t) (fun _ => Scalar.ofBits .f32 0#32) (iblk m c 4 t)
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => win0_12.fill (grid0.coords t) (fun _ => Scalar.ofBits .f32 0#32) (featBlk m c t)
    | ⟨13, _⟩ => win0_13.fill (grid0.coords t) (fun _ => Scalar.ofBits .f32 0#32) (biasBlk m c t)
    | ⟨_ + 14, h⟩ => absurd h (Nat.not_lt.2 (Nat.le_add_left _ _))
  Φ _ := Pipeline.ΦA spec0 c
  q w := Pipeline.shareOf spec0 w
  owed _ := 0

/-! ## Where the blocks lie -/

/-- A point's one grid coordinate is its number. -/
theorem coords_val : ∀ t : Fin cfg0.N, (grid0.coords t 0).val = t.val := by decide +kernel

/-- The distances' block of a point. -/
theorem index_0 : ∀ t : Fin cfg0.N, win0_0.index t 0 = 0 ∧ win0_0.index t 1 = t.val ∧ win0_0.index t 2 = 0 := by decide +kernel
/-- The eight rows of distances before it. -/
theorem index_1 : ∀ t : Fin cfg0.N, win0_1.index t 0 = 0 ∧ win0_1.index t 1 = 13 * t.val - 1 ∧ win0_1.index t 2 = 0 := by decide +kernel
/-- The transposed first rows' block of a point. -/
theorem index_2 : ∀ t : Fin cfg0.N, win0_2.index t 0 = t.val ∧ win0_2.index t 1 = 0 := by decide +kernel
/-- The eight of its rows before it. -/
theorem index_3 : ∀ t : Fin cfg0.N, win0_3.index t 0 = 13 * t.val - 1 ∧ win0_3.index t 1 = 0 := by decide +kernel
/-- The features' block of a point. -/
theorem index_4 : ∀ t : Fin cfg0.N, win0_4.index t 0 = 0 ∧ win0_4.index t 1 = t.val ∧ win0_4.index t 2 = 0 := by decide +kernel
/-- The eight rows of features before it. -/
theorem index_5 : ∀ t : Fin cfg0.N, win0_5.index t 0 = 0 ∧ win0_5.index t 1 = 13 * t.val - 1 ∧ win0_5.index t 2 = 0 := by decide +kernel
/-- The features' output block of a point. -/
theorem index_12 : ∀ t : Fin cfg0.N, win0_12.index t 0 = t.val ∧ win0_12.index t 1 = 0 ∧ win0_12.index t 2 = 0 := by decide +kernel
/-- The bias's output block of a point. -/
theorem index_13 : ∀ t : Fin cfg0.N, win0_13.index t 0 = t.val ∧ win0_13.index t 1 = 0 ∧ win0_13.index t 2 = 0 := by decide +kernel

/-- The rows of the distances' block that lie inside the array of 1024 rows. -/
theorem xsize_0 : ∀ t : Fin cfg0.N, win0_0.xsize (grid0.coords t) 0 = 16 ∧ win0_0.xsize (grid0.coords t) 1 = min 104 (1024 - 104 * t.val)
    ∧ win0_0.xsize (grid0.coords t) 2 = 1024 := by decide +kernel
/-- The same of the transposed first rows' block. -/
theorem xsize_2 : ∀ t : Fin cfg0.N, win0_2.xsize (grid0.coords t) 0 = min 104 (1024 - 104 * t.val)
    ∧ win0_2.xsize (grid0.coords t) 1 = 16 := by decide +kernel
/-- The same of the features' block. -/
theorem xsize_4 : ∀ t : Fin cfg0.N, win0_4.xsize (grid0.coords t) 0 = 16 ∧ win0_4.xsize (grid0.coords t) 1 = min 104 (1024 - 104 * t.val)
    ∧ win0_4.xsize (grid0.coords t) 2 = 128 := by decide +kernel
/-- The rows of the features' output block inside its 1025. -/
theorem xsize_12 : ∀ t : Fin cfg0.N, win0_12.xsize (grid0.coords t) 0 = min 104 (1025 - 104 * t.val)
    ∧ win0_12.xsize (grid0.coords t) 1 = 16 ∧ win0_12.xsize (grid0.coords t) 2 = 128 := by decide +kernel
/-- The same of the bias's output block. -/
theorem xsize_13 : ∀ t : Fin cfg0.N, win0_13.xsize (grid0.coords t) 0 = min 104 (1025 - 104 * t.val)
    ∧ win0_13.xsize (grid0.coords t) 1 = 16 ∧ win0_13.xsize (grid0.coords t) 2 = 1025 := by decide +kernel

/-- What a clipped block filled out holds at an element inside the array: the array's element there. -/
theorem fill_read (w : Window sig grid0) (t : Fin grid0.N) (d : w.block.Idx → Elt F w.elt) (f : w.arr.view.ty.Contents (Elt F))
    (j : w.block.Idx) (hj : ∀ a, (j a).val < w.xsize (grid0.coords t) a) :
    w.fill (grid0.coords t) d ((w.blk t).view.read (Elt F) f) j
      = (w.blk t).view.read (Elt F) f (fun a => ⟨(j a).val, hj a⟩) := by
  unfold Window.fill
  rw [dif_pos ((w.moved_iff _ j).mpr hj)]

/-- The windows of the small arrays lie at the arrays' starts. -/
theorem index_small : ∀ t : Fin cfg0.N, (∀ a, win0_6.index t a = 0) ∧ (∀ a, win0_7.index t a = 0) ∧ (∀ a, win0_8.index t a = 0)
    ∧ (∀ a, win0_9.index t a = 0) ∧ (∀ a, win0_10.index t a = 0) ∧ (∀ a, win0_11.index t a = 0) := by decide +kernel

/-- The blocks that the body finds at point `t`; `d0`, `d2`, `d4` is what lies past the arrays' ends. -/
def found (c : Dev nD) (t : Fin cfg0.N) (d0 : S16x104x1024.Idx → Elt F .i32) (d2 : S104x16.Idx → Elt F .i32)
    (d4 : S16x104x128.Idx → Elt F .f32) : Blk F where
  dm := win0_0.fill (grid0.coords t) d0 (iblk m c 0 t)
  dmP := iblk m c 1 t
  r0 := win0_2.fill (grid0.coords t) d2 (iblk m c 2 t)
  r0P := iblk m c 3 t
  ft := win0_4.fill (grid0.coords t) d4 (iblk m c 4 t)
  ftP := iblk m c 5 t
  tst := iblk m c 6 t
  cb := iblk m c 7 t
  w1 := iblk m c 8 t
  b1 := iblk m c 9 t
  w2 := iblk m c 10 t
  b2 := iblk m c 11 t

set_option maxHeartbeats 1000000 in
/-- The blocks that the body finds at point `t` are the blocks of the whole arrays, whatever lies past the arrays' ends. -/
theorem at_blocks (c : Dev nD) (t : Fin cfg0.N) (d0 : S16x104x1024.Idx → Elt F .i32) (d2 : S104x16.Idx → Elt F .i32)
    (d4 : S16x104x128.Idx → Elt F .f32) :
    (found m c t d0 d2 d4).At (arrOf m c) (grid0.coords t 0).val := by
  rw [coords_val t]
  have ht : t.val < 10 := t.isLt
  obtain ⟨z6, z7, z8, z9, z10, z11⟩ := index_small t
  constructor
  · intro b k q p hp
    obtain ⟨i0, i1, i2⟩ := index_0 t
    obtain ⟨x0, x1, x2⟩ := xsize_0 t
    refine (fill_read win0_0 t d0 (V m c main_arg2) (ix3 b k q) ?_).trans ?_
    · have := p.isLt; have := k.isLt
      intro a; fin_cases a
      · exact lt_of_lt_of_eq b.isLt x0.symm
      · refine lt_of_lt_of_eq ?_ x1.symm
        show k.val < _; omega
      · exact lt_of_lt_of_eq q.isLt x2.symm
    · refine congrArg (V m c main_arg2) (funext fun a => Fin.ext ((win0_0.rect_emb_val t _ a).trans ?_))
      fin_cases a
      · show win0_0.index t 0 * 16 + b.val = b.val; rw [i0]; omega
      · show win0_0.index t 1 * 104 + k.val = p.val; rw [i1]; omega
      · show win0_0.index t 2 * 1024 + q.val = q.val; rw [i2]; omega
  · intro b q p hp
    obtain ⟨i0, i1, i2⟩ := index_1 t
    refine congrArg (V m c main_arg2) (funext fun a => Fin.ext ((win0_1.rect_emb_val t _ a).trans ?_))
    fin_cases a
    · show win0_1.index t 0 * 16 + b.val = b.val; rw [i0]; omega
    · show win0_1.index t 1 * 8 + 7 = p.val; rw [i1]; omega
    · show win0_1.index t 2 * 1024 + q.val = q.val; rw [i2]; omega
  · intro hr b q
    obtain ⟨i0, i1, i2⟩ := index_1 t
    refine congrArg (V m c main_arg2) (funext fun a => Fin.ext ((win0_1.rect_emb_val t _ a).trans ?_))
    fin_cases a
    · show win0_1.index t 0 * 16 + b.val = b.val; rw [i0]; omega
    · show win0_1.index t 1 * 8 + 0 = 0; rw [i1]; omega
    · show win0_1.index t 2 * 1024 + q.val = q.val; rw [i2]; omega
  · intro k b p hp
    obtain ⟨i0, i1⟩ := index_2 t
    obtain ⟨x0, x1⟩ := xsize_2 t
    refine (fill_read win0_2 t d2 (V m c main_v2) (ix2 k b) ?_).trans ?_
    · have := p.isLt; have := k.isLt
      intro a; fin_cases a
      · refine lt_of_lt_of_eq ?_ x0.symm
        show k.val < _; omega
      · exact lt_of_lt_of_eq b.isLt x1.symm
    · refine congrArg (V m c main_v2) (funext fun a => Fin.ext ((win0_2.rect_emb_val t _ a).trans ?_))
      fin_cases a
      · show win0_2.index t 0 * 104 + k.val = p.val; rw [i0]; omega
      · show win0_2.index t 1 * 16 + b.val = b.val; rw [i1]; omega
  · intro b p hp
    obtain ⟨i0, i1⟩ := index_3 t
    refine congrArg (V m c main_v2) (funext fun a => Fin.ext ((win0_3.rect_emb_val t _ a).trans ?_))
    fin_cases a
    · show win0_3.index t 0 * 8 + 7 = p.val; rw [i0]; omega
    · show win0_3.index t 1 * 16 + b.val = b.val; rw [i1]; omega
  · intro b k l p hp
    obtain ⟨i0, i1, i2⟩ := index_4 t
    obtain ⟨x0, x1, x2⟩ := xsize_4 t
    refine (fill_read win0_4 t d4 (V m c main_arg0) (ix3 b k l) ?_).trans ?_
    · have := p.isLt; have := k.isLt
      intro a; fin_cases a
      · exact lt_of_lt_of_eq b.isLt x0.symm
      · refine lt_of_lt_of_eq ?_ x1.symm
        show k.val < _; omega
      · exact lt_of_lt_of_eq l.isLt x2.symm
    · refine congrArg (V m c main_arg0) (funext fun a => Fin.ext ((win0_4.rect_emb_val t _ a).trans ?_))
      fin_cases a
      · show win0_4.index t 0 * 16 + b.val = b.val; rw [i0]; omega
      · show win0_4.index t 1 * 104 + k.val = p.val; rw [i1]; omega
      · show win0_4.index t 2 * 128 + l.val = l.val; rw [i2]; omega
  · intro b l p hp
    obtain ⟨i0, i1, i2⟩ := index_5 t
    refine congrArg (V m c main_arg0) (funext fun a => Fin.ext ((win0_5.rect_emb_val t _ a).trans ?_))
    fin_cases a
    · show win0_5.index t 0 * 16 + b.val = b.val; rw [i0]; omega
    · show win0_5.index t 1 * 8 + 7 = p.val; rw [i1]; omega
    · show win0_5.index t 2 * 128 + l.val = l.val; rw [i2]; omega
  · exact funext fun j => congrArg (V m c main_arg3) (funext fun a => Fin.ext ((win0_6.rect_emb_val t _ a).trans (by rw [z6 a, Nat.zero_mul, Nat.zero_add])))
  · exact funext fun j => congrArg (V m c main_arg4) (funext fun a => Fin.ext ((win0_7.rect_emb_val t _ a).trans (by rw [z7 a, Nat.zero_mul, Nat.zero_add])))
  · exact funext fun j => congrArg (V m c main_arg5) (funext fun a => Fin.ext ((win0_8.rect_emb_val t _ a).trans (by rw [z8 a, Nat.zero_mul, Nat.zero_add])))
  · exact funext fun j => congrArg (V m c main_v3) (funext fun a => Fin.ext ((win0_9.rect_emb_val t _ a).trans (by rw [z9 a, Nat.zero_mul, Nat.zero_add])))
  · exact funext fun j => congrArg (V m c main_v4) (funext fun a => Fin.ext ((win0_10.rect_emb_val t _ a).trans (by rw [z10 a, Nat.zero_mul, Nat.zero_add])))
  · exact funext fun j => congrArg (V m c main_v5) (funext fun a => Fin.ext ((win0_11.rect_emb_val t _ a).trans (by rw [z11 a, Nat.zero_mul, Nat.zero_add])))

end Cert.KernelIdeal.Own

end
-- ==== Proof.Run.lean ====
/- The body's obligation at every point, and the run of the whole program around the region: every weakly fair execution
   terminates with every array at its computed contents. For any float values. -/
module

public import proofs.«01_k».proof.Proof.Data

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds -/

/-- What the body finds in the distances' buffer, past the clipping. -/
theorem before_0 (c : Dev nD) (t : Fin cfg0.N) (d) :
    (dats m 0 c).before (0 : Fin 14) t d = win0_0.fill (grid0.coords t) d (iblk m c 0 t) := by
  unfold Dat.before; rw [if_pos (fetch0_0 t)]; rfl
/-- What it finds in the transposed first rows' buffer. -/
theorem before_2 (c : Dev nD) (t : Fin cfg0.N) (d) :
    (dats m 0 c).before (2 : Fin 14) t d = win0_2.fill (grid0.coords t) d (iblk m c 2 t) := by
  unfold Dat.before; rw [if_pos (fetch0_2 t)]; rfl
/-- What it finds in the features' buffer. -/
theorem before_4 (c : Dev nD) (t : Fin cfg0.N) (d) :
    (dats m 0 c).before (4 : Fin 14) t d = win0_4.fill (grid0.coords t) d (iblk m c 4 t) := by
  unfold Dat.before; rw [if_pos (fetch0_4 t)]; rfl
/-- The features' output buffer is found as it was left. -/
theorem before_12 (c : Dev nD) (t : Fin cfg0.N) (d) : (dats m 0 c).before (12 : Fin 14) t d = d := by
  unfold Dat.before
  rw [if_neg (show ¬((cfg0.win 12).fetch t = true) from fun h => nomatch h)]
  split
  · rfl
  · exact if_pos (flush0_12 _)
/-- So is the bias's. -/
theorem before_13 (c : Dev nD) (t : Fin cfg0.N) (d) : (dats m 0 c).before (13 : Fin 14) t d = d := by
  unfold Dat.before
  rw [if_neg (show ¬((cfg0.win 13).fetch t = true) from fun h => nomatch h)]
  split
  · rfl
  · exact if_pos (flush0_13 _)

/-! ## What the body leaves of the outputs, on the rows inside the arrays -/

/-- What the body stores for the features, cut to the rows inside the array, is the computed array's block. -/
theorem feat_cut (c : Dev nD) (t : Fin cfg0.N) (X : Blk F) (h : X.At (arrOf m c) (grid0.coords t 0).val)
    (M : Memref sig .tc .vmem S104x16x128 .f32) (f : M.view.ty.Contents (Elt F)) :
    win0_12.cut (grid0.coords t) (M.view.read (Elt F) (M.view.writes (Elt F) f (X.featPieces (grid0.coords t)))) = featBlk m c t := by
  obtain ⟨x0, x1, x2⟩ := xsize_12 t
  obtain ⟨i0, i1, i2⟩ := index_12 t
  have ht : t.val < 10 := t.isLt
  funext j
  have h0 : (j 0).val < min 104 (1025 - 104 * t.val) := lt_of_lt_of_eq (j 0).isLt x0
  have h1 : (j 1).val < 16 := lt_of_lt_of_eq (j 1).isLt x1
  have h2 : (j 2).val < 128 := lt_of_lt_of_eq (j 2).isLt x2
  have hp : 104 * (grid0.coords t 0).val + (j 0).val < 1025 := by rw [coords_val t]; omega
  have e : win0_12.xinj (grid0.coords t) j = (ix3 ⟨(j 0).val, by omega⟩ ⟨(j 1).val, h1⟩ ⟨(j 2).val, h2⟩ : S104x16x128.Idx) := by
    funext a; fin_cases a <;> rfl
  refine (congrArg _ e).trans ((featPieces_at h M f ⟨(j 0).val, by omega⟩ ⟨(j 1).val, h1⟩ ⟨(j 2).val, h2⟩ hp).trans ?_)
  refine congrArg (arrOf m c).featOut (?_ : (ix3 ⟨_, hp⟩ ⟨(j 1).val, h1⟩ ⟨(j 2).val, h2⟩ : S1025x16x128.Idx) = (win0_12.rect t).emb j)
  funext a
  refine Fin.ext (Eq.trans ?_ (win0_12.rect_emb_val t j a).symm)
  fin_cases a
  · show 104 * (grid0.coords t 0).val + (j 0).val = win0_12.index t 0 * 104 + (j 0).val
    rw [i0, coords_val t]; omega
  · show (j 1).val = win0_12.index t 1 * 16 + (j 1).val
    rw [i1]; omega
  · show (j 2).val = win0_12.index t 2 * 128 + (j 2).val
    rw [i2]; omega

/-- What the body stores for the bias, cut likewise, is the computed array's block. -/
theorem bias_cut (c : Dev nD) (t : Fin cfg0.N) (X : Blk F) (h : X.At (arrOf m c) (grid0.coords t 0).val)
    (M : Memref sig .tc .vmem S104x16x1025 .f32) (f : M.view.ty.Contents (Elt F)) :
    win0_13.cut (grid0.coords t) (M.view.read (Elt F) (M.view.writes (Elt F) f (X.biasPieces (grid0.coords t)))) = biasBlk m c t := by
  obtain ⟨x0, x1, x2⟩ := xsize_13 t
  obtain ⟨i0, i1, i2⟩ := index_13 t
  have ht : t.val < 10 := t.isLt
  funext j
  have h0 : (j 0).val < min 104 (1025 - 104 * t.val) := lt_of_lt_of_eq (j 0).isLt x0
  have h1 : (j 1).val < 16 := lt_of_lt_of_eq (j 1).isLt x1
  have h2 : (j 2).val < 1025 := lt_of_lt_of_eq (j 2).isLt x2
  have hp : 104 * (grid0.coords t 0).val + (j 0).val < 1025 := by rw [coords_val t]; omega
  have e : win0_13.xinj (grid0.coords t) j = (ix3 ⟨(j 0).val, by omega⟩ ⟨(j 1).val, h1⟩ ⟨(j 2).val, h2⟩ : S104x16x1025.Idx) := by
    funext a; fin_cases a <;> rfl
  refine (congrArg _ e).trans ((biasPieces_at h M f ⟨(j 0).val, by omega⟩ ⟨(j 1).val, h1⟩ ⟨(j 2).val, h2⟩ hp).trans ?_)
  refine congrArg (arrOf m c).biasOut (?_ : (ix3 ⟨_, hp⟩ ⟨(j 1).val, h1⟩ ⟨(j 2).val, h2⟩ : S1025x16x1025.Idx) = (win0_13.rect t).emb j)
  funext a
  refine Fin.ext (Eq.trans ?_ (win0_13.rect_emb_val t j a).symm)
  fin_cases a
  · show 104 * (grid0.coords t 0).val + (j 0).val = win0_13.index t 0 * 104 + (j 0).val
    rw [i0, coords_val t]; omega
  · show (j 1).val = win0_13.index t 1 * 16 + (j 1).val
    rw [i1]; omega
  · show (j 2).val = win0_13.index t 2 * 1025 + (j 2).val
    rw [i2]; omega

/-- What the body leaves in the features' buffer, on the rows inside the array, is the computed array's block. -/
theorem feat_leave (c : Dev nD) (t : Fin cfg0.N) (X : Blk F) (h : X.At (arrOf m c) (grid0.coords t 0).val)
    (M : Memref sig .tc .vmem S104x16x128 .f32) (f : M.view.ty.Contents (Elt F)) :
    (iprop(M.view.loc (c : Thread nD τ) ↦[M.view.set]{fullShare} M.view.writes (Elt F) f (X.featPieces (grid0.coords t))) : sProp 𝕄)
      ⊢ owns (c : Thread nD τ) M fullShare (win0_12.fill (grid0.coords t)
          (M.view.read (Elt F) (M.view.writes (Elt F) f (X.featPieces (grid0.coords t))))
          (win0_12.cut (grid0.coords t) (win0_12.fill (grid0.coords t) (fun _ => Scalar.ofBits .f32 0#32) (featBlk m c t)))) := by
  rw [win0_12.cut_fill, ← feat_cut m c t X h M f, win0_12.fill_cut]
  unfold owns
  iintro H; iexists M.view.writes (Elt F) f (X.featPieces (grid0.coords t)); isplitr; · ipureintro; rfl
  iexact H

/-- What the body leaves in the bias' buffer, on the rows inside the array, is the computed array's block. -/
theorem bias_leave (c : Dev nD) (t : Fin cfg0.N) (X : Blk F) (h : X.At (arrOf m c) (grid0.coords t 0).val)
    (M : Memref sig .tc .vmem S104x16x1025 .f32) (f : M.view.ty.Contents (Elt F)) :
    (iprop(M.view.loc (c : Thread nD τ) ↦[M.view.set]{fullShare} M.view.writes (Elt F) f (X.biasPieces (grid0.coords t))) : sProp 𝕄)
      ⊢ owns (c : Thread nD τ) M fullShare (win0_13.fill (grid0.coords t)
          (M.view.read (Elt F) (M.view.writes (Elt F) f (X.biasPieces (grid0.coords t))))
          (win0_13.cut (grid0.coords t) (win0_13.fill (grid0.coords t) (fun _ => Scalar.ofBits .f32 0#32) (biasBlk m c t)))) := by
  rw [win0_13.cut_fill, ← bias_cut m c t X h M f, win0_13.fill_cut]
  unfold owns
  iintro H; iexists M.view.writes (Elt F) f (X.biasPieces (grid0.coords t)); isplitr; · ipureintro; rfl
  iexact H

/-! ## The body's obligation -/

set_option maxHeartbeats 4000000 in
/-- At every point: from the blocks fetched there and the output buffers at any contents, the body runs, and leaves the
    inputs as they were and the outputs at the blocks of the computed arrays, on the rows inside the arrays. -/
theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before_0 m c t d0,
    before0_1_of m (dats m 0 c) rfl (fun _ => rfl) t d1,
    before_2 m c t d2,
    before0_3_of m (dats m 0 c) rfl (fun _ => rfl) t d3,
    before_4 m c t d4,
    before0_5_of m (dats m 0 c) rfl (fun _ => rfl) t d5,
    before0_6_of m (dats m 0 c) rfl (fun _ => rfl) t d6,
    before0_7_of m (dats m 0 c) rfl (fun _ => rfl) t d7,
    before0_8_of m (dats m 0 c) rfl (fun _ => rfl) t d8,
    before0_9_of m (dats m 0 c) rfl (fun _ => rfl) t d9,
    before0_10_of m (dats m 0 c) rfl (fun _ => rfl) t d10,
    before0_11_of m (dats m 0 c) rfl (fun _ => rfl) t d11,
    before_12 m c t d12,
    before_13 m c t d13]
  have hX := at_blocks m c t d0 d2 d4
  iapply (run_body (F := F) c (grid0.coords t) (found m c t d0 d2 d4) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) d12 d13 Set.univ _)
  isplitl [H0 H1 H2 H3 H4 H5 H6 H7 H8 H9 H10 H11]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexact H12
  isplitl [H13]; · iexact H13
  unfold ins
  iintro ⟨⟨H0, H1, H2, H3, H4, H5, H6, H7, H8, H9, H10, H11⟩, ⟨%f12, H12⟩, ⟨%f13, H13⟩⟩
  isplitl [HΦ]; · iexact HΦ
  isplitl [Ho]; · iexact Ho
  isplitl [H0]
  · iexists d0
    change _ ⊢ owns (c : Thread nD τ) (win0_0.stage (cfg0.slots t 0)) fullShare (win0_0.fill (grid0.coords t) d0 (win0_0.cut (grid0.coords t) (win0_0.fill (grid0.coords t) (fun _ => (0#32 : BitVec 32)) (iblk m c 0 t))))
    rw [win0_0.cut_fill]
    exact BI.Entails.refl _
  isplitl [H1]; · iexact H1
  isplitl [H2]
  · iexists d2
    change _ ⊢ owns (c : Thread nD τ) (win0_2.stage (cfg0.slots t 2)) fullShare (win0_2.fill (grid0.coords t) d2 (win0_2.cut (grid0.coords t) (win0_2.fill (grid0.coords t) (fun _ => (0#32 : BitVec 32)) (iblk m c 2 t))))
    rw [win0_2.cut_fill]
    exact BI.Entails.refl _
  isplitl [H3]; · iexact H3
  isplitl [H4]
  · iexists d4
    change _ ⊢ owns (c : Thread nD τ) (win0_4.stage (cfg0.slots t 4)) fullShare (win0_4.fill (grid0.coords t) d4 (win0_4.cut (grid0.coords t) (win0_4.fill (grid0.coords t) (fun _ => (Scalar.ofBits .f32 0#32)) (iblk m c 4 t))))
    rw [win0_4.cut_fill]
    exact BI.Entails.refl _
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists ((win0_12.stage (cfg0.slots t 12)).view.read (Elt F) ((win0_12.stage (cfg0.slots t 12)).view.writes (Elt F) f12 ((found m c t d0 d2 d4).featPieces (grid0.coords t))))
    exact feat_leave m c t (found m c t d0 d2 d4) hX (win0_12.stage (cfg0.slots t 12)) f12
  · iexists ((win0_13.stage (cfg0.slots t 13)).view.read (Elt F) ((win0_13.stage (cfg0.slots t 13)).view.writes (Elt F) f13 ((found m c t d0 d2 d4).biasPieces (grid0.coords t))))
    exact bias_leave m c t (found m c t d0 d2 d4) hX (win0_13.stage (cfg0.slots t 13)) f13

/-! ## The run -/

set_option backward.isDefEq.respectTransparency.types false in
/-- At the compiled mesh, for any float values, from any memory with zero counters: every weakly fair execution of the
    program terminates, every final state has every array of the region and every other buffer at its computed contents,
    and every semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_shared cfgs (dats m) 0 launch₀0 defs₀ Variants.none m ρ main
    (hbody := body_obligation m) (hq := fun _ _ _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)
    (Q' := fun r => Pipeline.FramePost cfgs (dats m) 0 (Pipeline.afterTail₀ cfgs (dats m) 0 (V0 m) [hostOps1]) r ∧ r.2.sem = fun _ => 0)
    (hQ' := fun _ h => h)

end Cert.KernelIdeal.Own

end
-- ==== Proof.Frames.lean ====
/- The frames of the kernel as given, of its ideal reading and of the reference: each runs, leaves its arguments as they
   were and every semaphore counter at zero. The kernel at machine floats is the same program text as its ideal reading,
   so the run proved there for any float values is its run. -/
module

public import proofs.«01_k».proof.Defs
public import proofs.«01_k».proof.Proof.Run
public import proofs.«01_k».proof.Proof.Gen.Kernel
public import proofs.«01_k».proof.Proof.Gen.Kernel.Launch
public import proofs.«01_k».proof.Proof.Gen.ReferenceIdeal
public import proofs.«01_k».proof.Proof.Gen.ReferenceIdeal.Run
public import Idealize.ShloMosaic.Lib.Claim
public import Idealize.ShloMosaic.Lib.Quiescent

@[expose] public section

set_option maxRecDepth 16384

noncomputable section

namespace Cert.Pre_distances_in_range.Own

/-- The side conditions of the precondition's own operations. -/
instance facts : Cert.Pre_distances_in_range.Facts where
  bcast_S_S16x1024x1024 := by decide
  reducesTo_S16x1024x1024_S_d0_1_2 := by decide
  h_S_ := by decide

end Cert.Pre_distances_in_range.Own

namespace Cert.KernelIdeal.Own

open Cert.KernelIdeal Cert.KernelIdeal.Gen
open Idealize.ShloMosaic Idealize.ShloMosaic.TcCoe Idealize.SL.Sem

variable {F : FTy → Type} [FloatOps F]

/-- The kernel's frame, for any float values: every execution terminates, with the arguments unchanged and every semaphore
    counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (fun _ _ => rfl) ((θ_run defs _ _).mono (fun _ h => h.1) (run_main m ρ)))
    ((θ_run defs _ _).mono (fun _ h => h.2) (run_main m ρ))

end Cert.KernelIdeal.Own

namespace Cert.Proof

open Idealize.ShloMosaic Idealize.ShloMosaic.TcCoe Idealize.SL.Sem

/-- The ideal reading's frame. -/
theorem frame_KernelIdeal : Cert.quiescent_KernelIdeal := fun m g _ => Cert.KernelIdeal.Own.frame (F := Ideal) m g

/-- The same under the precondition, which it does not need. -/
theorem frame_KernelIdeal_pre : Cert.quiescent_KernelIdeal_pre_distances_in_range := fun m g _ =>
  Cert.KernelIdeal.Own.frame (F := Ideal) m g

set_option backward.isDefEq.respectTransparency false in
set_option backward.isDefEq.respectTransparency.types false in
/-- The two texts' kernel bodies are one function. -/
theorem defs₀_eq : (Cert.Kernel.defs₀ (F := Bits)) = (Cert.KernelIdeal.defs₀ (F := Bits)) := by
  unfold Cert.Kernel.defs₀ Cert.KernelIdeal.defs₀
  refine congrArg Defs.onTc ?_
  funext l a
  match l, a with
  | 0, (t, s) => rfl

set_option backward.isDefEq.respectTransparency false in
set_option backward.isDefEq.respectTransparency.types false in
/-- And so are the programs' definitions with the region's. -/
theorem defs_eq : (Cert.Kernel.defs (F := Bits)) = (Cert.KernelIdeal.defs (F := Bits)) := by
  unfold Cert.Kernel.defs Cert.KernelIdeal.defs
  exact congrArg _ defs₀_eq

set_option backward.isDefEq.respectTransparency false in
set_option backward.isDefEq.respectTransparency.types false in
theorem main_eq : (Cert.Kernel.main (F := Bits)) = (Cert.KernelIdeal.main (F := Bits)) := rfl

set_option backward.isDefEq.respectTransparency false in
set_option backward.isDefEq.respectTransparency.types false in
theorem frame_Kernel : Cert.quiescent_Kernel := fun m g _ => by
  rw [defs_eq, main_eq]
  exact Cert.KernelIdeal.Own.frame (F := Bits) m g

/-- The reference's frame. -/
theorem frame_ReferenceIdeal : Cert.quiescent_ReferenceIdeal := fun m g _ =>
  (θ_run (Cert.ReferenceIdeal.defs (F := Ideal)) _ _).mono
    (fun r h => And.intro (fun c => (h c).2.2.2) (Idealize.ShloMosaic.sem_eq_zero_of_no_sems (by decide) r.2))
    (Cert.ReferenceIdeal.Value.run (F := Ideal) m g)

/-- The same under the precondition, which it does not need. -/
theorem frame_ReferenceIdeal_pre : Cert.quiescent_ReferenceIdeal_pre_distances_in_range := fun m g _ =>
  frame_ReferenceIdeal m g trivial

end Cert.Proof

end
-- ==== Proof.Final.lean ====
/- What the kernel's run leaves, for any float values: its two output arrays whole, and around the region the host lines'
   values, so that each result is a function of the arguments. -/
module

public import proofs.«01_k».proof.Proof.Frames
public import Idealize.ShloMosaic.Lib.PointwiseCore
public import Idealize.ShloMosaic.Lib.Pipeline.ValueKit.Geometry

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat Cfg Window cellOf)

variable {F : FTy → Type} [FloatOps F]
variable (m : (ℓ : Loc nD τ sig) → Buf (Elt F) ℓ)

/-! ## The output arrays -/

/-- The features' blocks cover their array. -/
theorem covers_12 : (cfg0.win 12).Covers := by decide +kernel
/-- The bias's blocks cover theirs. -/
theorem covers_13 : (cfg0.win 13).Covers := by decide +kernel

/-- The features' array at the run's end: the blocks written back are its blocks, and cover it. -/
theorem feat_final (c : Dev nD) : (dats m 0 c).arrAt 12 cfg0.N = featArr m c :=
  (dats m 0 c).arrAt_eq_of_cover 12 (featArr m c) (fun t _ => win0_12.cut_fill _ _ _)
    (covers_12.cover _ (Memref.isWhole_whole _))

/-- The bias's array likewise. -/
theorem bias_final (c : Dev nD) : (dats m 0 c).arrAt 13 cfg0.N = biasArr m c :=
  (dats m 0 c).arrAt_eq_of_cover 13 (biasArr m c) (fun t _ => win0_13.cut_fill _ _ _)
    (covers_13.cover _ (Memref.isWhole_whole _))

/-! ## The host lines before the region -/

/-- The host's transposed first rows of the distances. -/
theorem V_r0 (c : Dev nD) : V m c main_v2 = transpose S1024x16 [1, 0] (shapeCast S16x1024 (extractStridedSlice S16x1x1024 ![0, 0, 0] (m ((c.tc : Thread nD τ).loc main_arg2)) slices_S16x1024x1024_S16x1x1024_0_0_0) shapeCasts_S16x1x1024_S16x1024) transposes_S16x1024_S1024x16_1_0 := by
  simp only [V, V0, hostOps0, List.flatten_cons, List.flatten_nil, List.append_nil]
  after_results_simp <;> rfl

/-- The host's reshaped hidden shift. -/
theorem V_b1 (c : Dev nD) : V m c main_v3 = shapeCast S1x256 (m ((c.tc : Thread nD τ).loc main_arg6)) shapeCasts_S256_S1x256 := by
  simp only [V, V0, hostOps0, List.flatten_cons, List.flatten_nil, List.append_nil]
  after_results_simp <;> rfl

/-- The host's reshaped second weights. -/
theorem V_w2 (c : Dev nD) : V m c main_v4 = shapeCast S1x256 (m ((c.tc : Thread nD τ).loc main_arg7)) shapeCasts_S256x1_S1x256 := by
  simp only [V, V0, hostOps0, List.flatten_cons, List.flatten_nil, List.append_nil]
  after_results_simp <;> rfl

/-- The host's reshaped last shift. -/
theorem V_b2 (c : Dev nD) : V m c main_v5 = shapeCast S1x1 (m ((c.tc : Thread nD τ).loc main_arg8)) shapeCasts_S1_S1x1 := by
  simp only [V, V0, hostOps0, List.flatten_cons, List.flatten_nil, List.append_nil]
  after_results_simp <;> rfl

/-! ## The host lines after it -/

/-- The buffers as the region leaves them. -/
def mid (c : Dev nD) : Valuation τ sig (Elt F) :=
  Pipeline.withArrays (cfgs 0).spec c (V0 m c) fun w => (dats m 0 c).arrAt w (cfgs 0).N

/-- After the region the features' buffer holds the computed array. -/
theorem mid_feat (c : Dev nD) : mid m c (Proc.devRef .tc main_v6_0) = featArr m c :=
  ((dats m 0 c).withArrays_arrAt sharedIn0 (V0 m c) (fun _ => rfl) 12).trans (feat_final m c)

/-- And the bias's buffer its computed array. -/
theorem mid_bias (c : Dev nD) : mid m c (Proc.devRef .tc main_v6_1) = biasArr m c :=
  ((dats m 0 c).withArrays_arrAt sharedIn0 (V0 m c) (fun _ => rfl) 13).trans (bias_final m c)

/-- The mask is as launched. -/
theorem mid_mask (c : Dev nD) : mid m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans
    (V_main_arg1 m c)

/-- The first result: the features' array with batches first. -/
theorem W_feat (c : Dev nD) : Pipeline.afterTail₀ cfgs (dats m) 0 (V0 m) [hostOps1] c main_v7
    = transpose S16x1025x128 [1, 0, 2] (featArr m c) transposes_S1025x16x128_S16x1025x128_1_0_2 := by
  rw [← mid_feat m c]
  show StableHlo.after _ (mid m c) _ = _
  generalize mid m c = W
  simp only [hostOps1, List.flatten_cons, List.flatten_nil, List.append_nil]
  after_results_simp <;> rfl

/-- The third result: the bias's array with batches first. -/
theorem W_bias (c : Dev nD) : Pipeline.afterTail₀ cfgs (dats m) 0 (V0 m) [hostOps1] c main_v8
    = transpose S16x1025x1025 [1, 0, 2] (biasArr m c) transposes_S1025x16x1025_S16x1025x1025_1_0_2 := by
  rw [← mid_bias m c]
  show StableHlo.after _ (mid m c) _ = _
  generalize mid m c = W
  simp only [hostOps1, List.flatten_cons, List.flatten_nil, List.append_nil]
  after_results_simp <;> rfl

/-- The second result: ones before the mask. -/
theorem W_mask (c : Dev nD) : Pipeline.afterTail₀ cfgs (dats m) 0 (V0 m) [hostOps1] c main_v10
    = concatenate S16x1025 1 [⟨S16x1, broadcastInDim S16x1 ![] bcast_S_S16x1 (constantI S_ 1 1#1)⟩, ⟨S16x1024, m ((c.tc : Thread nD τ).loc main_arg1)⟩] concatenates_S16x1_S16x1024_S16x1025_d1 := by
  rw [← mid_mask m c]
  show StableHlo.after _ (mid m c) _ = _
  generalize mid m c = W
  simp only [hostOps1, List.flatten_cons, List.flatten_nil, List.append_nil]
  after_results_simp <;> rfl

/-- The kernel's run with its values, for any float values: every execution terminates with each result at its computed
    contents, the arguments unchanged. -/
theorem run_values (ρ : Dev nD → PrngReg) :
    θ_run (defs (F := F)) (onTc (τ := τ) (main (F := F))) ⟨m, fun _ => 0, ρ⟩ (fun r => ∀ c : Dev nD,
      r.2.mem ((c.tc : Thread nD τ).loc main_v7) = transpose S16x1025x128 [1, 0, 2] (featArr m c) transposes_S1025x16x128_S16x1025x128_1_0_2
      ∧ r.2.mem ((c.tc : Thread nD τ).loc main_v10) = concatenate S16x1025 1 [⟨S16x1, broadcastInDim S16x1 ![] bcast_S_S16x1 (constantI S_ 1 1#1)⟩, ⟨S16x1024, m ((c.tc : Thread nD τ).loc main_arg1)⟩] concatenates_S16x1_S16x1024_S16x1025_d1
      ∧ r.2.mem ((c.tc : Thread nD τ).loc main_v8) = transpose S16x1025x1025 [1, 0, 2] (biasArr m c) transposes_S1025x16x1025_S16x1025x1025_1_0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h.1.1 c).2 main_v7 (Pipeline.mem_restRefs_of main_v7 (by decide) (by decide))).trans (W_feat m c),
      ((h.1.1 c).2 main_v10 (Pipeline.mem_restRefs_of main_v10 (by decide) (by decide))).trans (W_mask m c),
      ((h.1.1 c).2 main_v8 (Pipeline.mem_restRefs_of main_v8 (by decide) (by decide))).trans (W_bias m c),
      h.2.1 c⟩) (θ_run_and (run_main m ρ) (frame m ρ))

/-! ## The arrays the region reads, element by element -/

/-- The first rows of the distances, transposed: what the border's first column reads. -/
theorem r0_at (c : Dev nD) (p : Fin 1024) (b : Fin 16) : (arrOf m c).r0 (ix2 p b) = m ((c.tc : Thread nD τ).loc main_arg2) (ix3 b 0 p) := by
  show V m c main_v2 (ix2 p b) = _
  rw [V_r0]
  pointwise []

/-- The hidden shift that the region reads is the argument. -/
theorem b1_at (c : Dev nD) (h : Fin 256) : (arrOf m c).b1 (ix2 0 h) = m ((c.tc : Thread nD τ).loc main_arg6) (ix1 h) := by
  show V m c main_v3 (ix2 0 h) = _
  rw [V_b1]
  pointwise []

/-- The second weights that the region reads are the argument. -/
theorem w2_at (c : Dev nD) (h : Fin 256) : (arrOf m c).w2 (ix2 0 h) = m ((c.tc : Thread nD τ).loc main_arg7) (ix2 h 0) := by
  show V m c main_v4 (ix2 0 h) = _
  rw [V_w2]
  pointwise []

/-- The last shift that the region reads is the argument. -/
theorem b2_at (c : Dev nD) : (arrOf m c).b2 (ix2 0 0) = m ((c.tc : Thread nD τ).loc main_arg8) (ix1 0) := by
  show V m c main_v5 (ix2 0 0) = _
  rw [V_b2]
  pointwise []

end Cert.KernelIdeal.Own

end
-- ==== Proof.Ref.lean ====
/- The reference's values, element by element: its features and mask, and the augmented distances that its four scatters
   make. -/
module

public import proofs.«01_k».proof.Proof.Gen.ReferenceIdeal
public import proofs.«01_k».proof.Proof.Gen.ReferenceIdeal.Run
public import Idealize.ShloMosaic.Lib.Pointwise
public import Idealize.ShloMosaic.Lib.Routing.OpsSet
public import Idealize.ShloMosaic.Lib.Routing.OpsPair

@[expose] public section

set_option maxRecDepth 16384

noncomputable section

namespace Cert.ReferenceIdeal.Own

open Cert.ReferenceIdeal Cert.ReferenceIdeal.Gen
open Idealize.ShloMosaic Idealize.ShloMosaic.TcCoe

/-! ## The four scatters -/

/-- The position of a scatter: the two words of its one index. -/
def pair (r q : BitVec 32) : IVec S2 32 :=
  concatenate S2 0 [⟨S1, (broadcastInDim S1 ![] bcast_S_S1 (constantI S_ 32 r))⟩, ⟨S1, (broadcastInDim S1 ![] bcast_S_S1 (constantI S_ 32 q))⟩] concatenates_S1_S1_S2_d0

/-- The position's first word. -/
theorem pair_zero (r q : BitVec 32) : pair r q (ix1 0) = r := by
  unfold pair; pointwise []
/-- The position's second word. -/
theorem pair_one (r q : BitVec 32) : pair r q (ix1 1) = q := by
  unfold pair; pointwise []

/-- The scatters: into a row, into a column, into a block, and of one entry per batch. -/
abbrev rowDims : ScatterDims S16x1025x1025 S2 S16x1024 := scatter_S16x1025x1025_S2_S16x1024_01_1_12_0
/-- The scatter that sets the first column. -/
abbrev colDims : ScatterDims S16x1025x1025 S2 S16x1024 := scatter_S16x1025x1025_S2_S16x1024_01_2_12_0
/-- The scatter that sets the block past the first row and column. -/
abbrev blockDims : ScatterDims S16x1025x1025 S2 S16x1024x1024 := scatter_S16x1025x1025_S2_S16x1024x1024_012_n_12_0
/-- The scatter that sets the corner. -/
abbrev entryDims : ScatterDims S16x1025x1025 S2 S16 := scatter_S16x1025x1025_S2_S16_0_12_12_0

/-- A scatter that sets, at an element which the updates' element `k` and no other lands at: that element. -/
theorem scatter_one {u : Shape} (d : ScatterDims S16x1025x1025 S2 u) (x0 : S16x1025x1025.Idx → BitVec 32) (idx : IVec S2 32)
    (upd : u.Idx → BitVec 32) (j : S16x1025x1025.Idx) (k : u.Idx) (h : ∀ k', d.resultIdx? k' idx = some j ↔ k' = k) :
    Host.scatter d (fun _ b => b) x0 idx upd j = upd k :=
  Routing.scatter_set_hit d x0 idx upd j (upd k) (fun k' hk' => congrArg upd ((h k').mp hk')) k ((h k).mpr rfl)

section
variable (r q : BitVec 32) (b : Fin 16) (y z : Fin 1025)

/-- Where an update of the row scatter lands. -/
theorem row_lands (k : S16x1024.Idx) : (rowDims).resultIdx? k (pair r q) = some (ix3 b y z)
    ↔ (k 0).val = b.val ∧ r.toInt + (0 : ℕ) = y.val ∧ q.toInt + ((k 1).val : ℕ) = z.val := by
  rw [Routing.resultIdx?_eq_some]
  have e0 : (rowDims).start k (pair r q) 0 = 0 := rfl
  have e1 : (rowDims).start k (pair r q) 1 = r.toInt :=
    congrArg BitVec.toInt ((congrArg (pair r q) (by funext a; fin_cases a; rfl)).trans (pair_zero r q))
  have e2 : (rowDims).start k (pair r q) 2 = q.toInt :=
    congrArg BitVec.toInt ((congrArg (pair r q) (by funext a; fin_cases a; rfl)).trans (pair_one r q))
  have w0 : (rowDims).window k 0 = (k 0).val := rfl
  have w1 : (rowDims).window k 1 = 0 := rfl
  have w2 : (rowDims).window k 2 = (k 1).val := rfl
  constructor
  · intro h
    have h0 := h 0; have h1 := h 1; have h2 := h 2
    rw [e0, w0] at h0; rw [e1, w1] at h1; rw [e2, w2] at h2
    exact ⟨by rw [zero_add] at h0; exact_mod_cast h0, h1, h2⟩
  · intro h a
    obtain ⟨h0, h1, h2⟩ := h
    fin_cases a
    · show (rowDims).start k (pair r q) 0 + ((rowDims).window k 0 : ℤ) = (b.val : ℤ)
      rw [e0, w0, zero_add]; exact_mod_cast h0
    · show (rowDims).start k (pair r q) 1 + ((rowDims).window k 1 : ℤ) = (y.val : ℤ)
      rw [e1, w1]; exact h1
    · show (rowDims).start k (pair r q) 2 + ((rowDims).window k 2 : ℤ) = (z.val : ℤ)
      rw [e2, w2]; exact h2

/-- Where an update of the col scatter lands. -/
theorem col_lands (k : S16x1024.Idx) : (colDims).resultIdx? k (pair r q) = some (ix3 b y z)
    ↔ (k 0).val = b.val ∧ r.toInt + ((k 1).val : ℕ) = y.val ∧ q.toInt + (0 : ℕ) = z.val := by
  rw [Routing.resultIdx?_eq_some]
  have e0 : (colDims).start k (pair r q) 0 = 0 := rfl
  have e1 : (colDims).start k (pair r q) 1 = r.toInt :=
    congrArg BitVec.toInt ((congrArg (pair r q) (by funext a; fin_cases a; rfl)).trans (pair_zero r q))
  have e2 : (colDims).start k (pair r q) 2 = q.toInt :=
    congrArg BitVec.toInt ((congrArg (pair r q) (by funext a; fin_cases a; rfl)).trans (pair_one r q))
  have w0 : (colDims).window k 0 = (k 0).val := rfl
  have w1 : (colDims).window k 1 = (k 1).val := rfl
  have w2 : (colDims).window k 2 = 0 := rfl
  constructor
  · intro h
    have h0 := h 0; have h1 := h 1; have h2 := h 2
    rw [e0, w0] at h0; rw [e1, w1] at h1; rw [e2, w2] at h2
    exact ⟨by rw [zero_add] at h0; exact_mod_cast h0, h1, h2⟩
  · intro h a
    obtain ⟨h0, h1, h2⟩ := h
    fin_cases a
    · show (colDims).start k (pair r q) 0 + ((colDims).window k 0 : ℤ) = (b.val : ℤ)
      rw [e0, w0, zero_add]; exact_mod_cast h0
    · show (colDims).start k (pair r q) 1 + ((colDims).window k 1 : ℤ) = (y.val : ℤ)
      rw [e1, w1]; exact h1
    · show (colDims).start k (pair r q) 2 + ((colDims).window k 2 : ℤ) = (z.val : ℤ)
      rw [e2, w2]; exact h2

/-- Where an update of the block scatter lands. -/
theorem block_lands (k : S16x1024x1024.Idx) : (blockDims).resultIdx? k (pair r q) = some (ix3 b y z)
    ↔ (k 0).val = b.val ∧ r.toInt + ((k 1).val : ℕ) = y.val ∧ q.toInt + ((k 2).val : ℕ) = z.val := by
  rw [Routing.resultIdx?_eq_some]
  have e0 : (blockDims).start k (pair r q) 0 = 0 := rfl
  have e1 : (blockDims).start k (pair r q) 1 = r.toInt :=
    congrArg BitVec.toInt ((congrArg (pair r q) (by funext a; fin_cases a; rfl)).trans (pair_zero r q))
  have e2 : (blockDims).start k (pair r q) 2 = q.toInt :=
    congrArg BitVec.toInt ((congrArg (pair r q) (by funext a; fin_cases a; rfl)).trans (pair_one r q))
  have w0 : (blockDims).window k 0 = (k 0).val := rfl
  have w1 : (blockDims).window k 1 = (k 1).val := rfl
  have w2 : (blockDims).window k 2 = (k 2).val := rfl
  constructor
  · intro h
    have h0 := h 0; have h1 := h 1; have h2 := h 2
    rw [e0, w0] at h0; rw [e1, w1] at h1; rw [e2, w2] at h2
    exact ⟨by rw [zero_add] at h0; exact_mod_cast h0, h1, h2⟩
  · intro h a
    obtain ⟨h0, h1, h2⟩ := h
    fin_cases a
    · show (blockDims).start k (pair r q) 0 + ((blockDims).window k 0 : ℤ) = (b.val : ℤ)
      rw [e0, w0, zero_add]; exact_mod_cast h0
    · show (blockDims).start k (pair r q) 1 + ((blockDims).window k 1 : ℤ) = (y.val : ℤ)
      rw [e1, w1]; exact h1
    · show (blockDims).start k (pair r q) 2 + ((blockDims).window k 2 : ℤ) = (z.val : ℤ)
      rw [e2, w2]; exact h2

/-- Where an update of the entry scatter lands. -/
theorem entry_lands (k : S16.Idx) : (entryDims).resultIdx? k (pair r q) = some (ix3 b y z)
    ↔ (k 0).val = b.val ∧ r.toInt + (0 : ℕ) = y.val ∧ q.toInt + (0 : ℕ) = z.val := by
  rw [Routing.resultIdx?_eq_some]
  have e0 : (entryDims).start k (pair r q) 0 = 0 := rfl
  have e1 : (entryDims).start k (pair r q) 1 = r.toInt :=
    congrArg BitVec.toInt ((congrArg (pair r q) (by funext a; fin_cases a; rfl)).trans (pair_zero r q))
  have e2 : (entryDims).start k (pair r q) 2 = q.toInt :=
    congrArg BitVec.toInt ((congrArg (pair r q) (by funext a; fin_cases a; rfl)).trans (pair_one r q))
  have w0 : (entryDims).window k 0 = (k 0).val := rfl
  have w1 : (entryDims).window k 1 = 0 := rfl
  have w2 : (entryDims).window k 2 = 0 := rfl
  constructor
  · intro h
    have h0 := h 0; have h1 := h 1; have h2 := h 2
    rw [e0, w0] at h0; rw [e1, w1] at h1; rw [e2, w2] at h2
    exact ⟨by rw [zero_add] at h0; exact_mod_cast h0, h1, h2⟩
  · intro h a
    obtain ⟨h0, h1, h2⟩ := h
    fin_cases a
    · show (entryDims).start k (pair r q) 0 + ((entryDims).window k 0 : ℤ) = (b.val : ℤ)
      rw [e0, w0, zero_add]; exact_mod_cast h0
    · show (entryDims).start k (pair r q) 1 + ((entryDims).window k 1 : ℤ) = (y.val : ℤ)
      rw [e1, w1]; exact h1
    · show (entryDims).start k (pair r q) 2 + ((entryDims).window k 2 : ℤ) = (z.val : ℤ)
      rw [e2, w2]; exact h2

end

section
variable (x0 : S16x1025x1025.Idx → BitVec 32) (b : Fin 16) (y z : Fin 1025)

/-- The word 0 reads 0. -/
theorem int_zero : (0#32 : BitVec 32).toInt = 0 := by decide
/-- The word 1 reads 1. -/
theorem int_one : (1#32 : BitVec 32).toInt = 1 := by decide

/-- The row scatter: row 0 from column 1 on. -/
theorem row_set (upd : S16x1024.Idx → BitVec 32) :
    Host.scatter rowDims (fun _ b => b) x0 (pair 0#32 1#32) upd (ix3 b y z)
      = if h : y.val = 0 ∧ 1 ≤ z.val then upd (ix2 b ⟨z.val - 1, by have := z.isLt; omega⟩) else x0 (ix3 b y z) := by
  have := y.isLt
  have := z.isLt
  split
  · next h =>
    refine scatter_one _ _ _ _ _ _ fun k => ?_
    rw [row_lands, int_zero, int_one]
    idx_vars k
    constructor
    · rintro ⟨h0, h1, h2⟩
      change k0.val = b.val at h0
      change (0 : ℤ) + ((0 : ℕ) : ℤ) = (y.val : ℤ) at h1
      change (1 : ℤ) + (k1.val : ℤ) = (z.val : ℤ) at h2
      funext a
      fin_cases a
      · exact Fin.ext h0
      · refine Fin.ext ?_; show k1.val = z.val - 1; omega
    · intro e
      have a0 : k0 = b := congrFun e 0
      have a1 : k1.val = z.val - 1 := congrArg Fin.val (congrFun e 1)
      refine ⟨congrArg Fin.val a0, ?_, ?_⟩
      · show (0 : ℤ) + ((0 : ℕ) : ℤ) = (y.val : ℤ)
        omega
      · show (1 : ℤ) + (k1.val : ℤ) = (z.val : ℤ)
        omega
  · next h =>
    refine Routing.scatter_set_miss _ _ _ _ _ fun k hk => h ?_
    rw [row_lands, int_zero, int_one] at hk
    omega

/-- The column scatter: column 0 from row 1 on. -/
theorem col_set (upd : S16x1024.Idx → BitVec 32) :
    Host.scatter colDims (fun _ b => b) x0 (pair 1#32 0#32) upd (ix3 b y z)
      = if h : 1 ≤ y.val ∧ z.val = 0 then upd (ix2 b ⟨y.val - 1, by have := y.isLt; omega⟩) else x0 (ix3 b y z) := by
  have := y.isLt
  have := z.isLt
  split
  · next h =>
    refine scatter_one _ _ _ _ _ _ fun k => ?_
    rw [col_lands, int_zero, int_one]
    idx_vars k
    constructor
    · rintro ⟨h0, h1, h2⟩
      change k0.val = b.val at h0
      change (1 : ℤ) + (k1.val : ℤ) = (y.val : ℤ) at h1
      change (0 : ℤ) + ((0 : ℕ) : ℤ) = (z.val : ℤ) at h2
      funext a
      fin_cases a
      · exact Fin.ext h0
      · refine Fin.ext ?_; show k1.val = y.val - 1; omega
    · intro e
      have a0 : k0 = b := congrFun e 0
      have a1 : k1.val = y.val - 1 := congrArg Fin.val (congrFun e 1)
      refine ⟨congrArg Fin.val a0, ?_, ?_⟩
      · show (1 : ℤ) + (k1.val : ℤ) = (y.val : ℤ)
        omega
      · show (0 : ℤ) + ((0 : ℕ) : ℤ) = (z.val : ℤ)
        omega
  · next h =>
    refine Routing.scatter_set_miss _ _ _ _ _ fun k hk => h ?_
    rw [col_lands, int_zero, int_one] at hk
    omega

/-- The block scatter: rows and columns from 1 on. -/
theorem block_set (upd : S16x1024x1024.Idx → BitVec 32) :
    Host.scatter blockDims (fun _ b => b) x0 (pair 1#32 1#32) upd (ix3 b y z)
      = if h : 1 ≤ y.val ∧ 1 ≤ z.val then upd (ix3 b ⟨y.val - 1, by have := y.isLt; omega⟩ ⟨z.val - 1, by have := z.isLt; omega⟩) else x0 (ix3 b y z) := by
  have := y.isLt
  have := z.isLt
  split
  · next h =>
    refine scatter_one _ _ _ _ _ _ fun k => ?_
    rw [block_lands, int_one]
    idx_vars k
    constructor
    · rintro ⟨h0, h1, h2⟩
      change k0.val = b.val at h0
      change (1 : ℤ) + (k1.val : ℤ) = (y.val : ℤ) at h1
      change (1 : ℤ) + (k2.val : ℤ) = (z.val : ℤ) at h2
      funext a
      fin_cases a
      · exact Fin.ext h0
      · refine Fin.ext ?_; show k1.val = y.val - 1; omega
      · refine Fin.ext ?_; show k2.val = z.val - 1; omega
    · intro e
      have a0 : k0 = b := congrFun e 0
      have a1 : k1.val = y.val - 1 := congrArg Fin.val (congrFun e 1)
      have a2 : k2.val = z.val - 1 := congrArg Fin.val (congrFun e 2)
      refine ⟨congrArg Fin.val a0, ?_, ?_⟩
      · show (1 : ℤ) + (k1.val : ℤ) = (y.val : ℤ)
        omega
      · show (1 : ℤ) + (k2.val : ℤ) = (z.val : ℤ)
        omega
  · next h =>
    refine Routing.scatter_set_miss _ _ _ _ _ fun k hk => h ?_
    rw [block_lands, int_one] at hk
    omega

/-- The entry scatter: the corner of every batch. -/
theorem entry_set (upd : S16.Idx → BitVec 32) :
    Host.scatter entryDims (fun _ b => b) x0 (pair 0#32 0#32) upd (ix3 b y z)
      = if h : y.val = 0 ∧ z.val = 0 then upd (ix1 b) else x0 (ix3 b y z) := by
  have := y.isLt
  have := z.isLt
  split
  · next h =>
    refine scatter_one _ _ _ _ _ _ fun k => ?_
    rw [entry_lands, int_zero]
    idx_vars k
    constructor
    · rintro ⟨h0, h1, h2⟩
      change k0.val = b.val at h0
      change (0 : ℤ) + ((0 : ℕ) : ℤ) = (y.val : ℤ) at h1
      change (0 : ℤ) + ((0 : ℕ) : ℤ) = (z.val : ℤ) at h2
      funext a
      fin_cases a
      · exact Fin.ext h0
    · intro e
      have a0 : k0 = b := congrFun e 0
      refine ⟨congrArg Fin.val a0, ?_, ?_⟩
      · show (0 : ℤ) + ((0 : ℕ) : ℤ) = (y.val : ℤ)
        omega
      · show (0 : ℤ) + ((0 : ℕ) : ℤ) = (z.val : ℤ)
        omega
  · next h =>
    refine Routing.scatter_set_miss _ _ _ _ _ fun k hk => h ?_
    rw [entry_lands, int_zero] at hk
    omega
end

/-! ## The augmented distances -/

/-- The distance of an entry of the border, before the added row and column: one more, except that 9999 stays. -/
def bump (x : BitVec 32) : BitVec 32 := Scalar.select (Scalar.cmpi .eq x 9999#32) 9999#32 (Scalar.addi x 1#32)

/-- The updates of the border: the first row of every batch's distances, bumped. -/
abbrev upd (dm : IVec S16x1024x1024 32) : IVec S16x1024 32 :=
  select (cmpi .eq (shapeCast _ (extractStridedSlice S16x1x1024 ![0, 0, 0] dm slices_S16x1024x1024_S16x1x1024_0_0_0) shapeCasts_S16x1x1024_S16x1024) (broadcastInDim S16x1024 ![] bcast_S_S16x1024 (constantI S_ 32 9999#32))) (broadcastInDim S16x1024 ![] bcast_S_S16x1024 (id (constantI S_ 32 9999#32))) (addi (shapeCast _ (extractStridedSlice S16x1x1024 ![0, 0, 0] dm slices_S16x1024x1024_S16x1x1024_0_0_0) shapeCasts_S16x1x1024_S16x1024) (broadcastInDim S16x1024 ![] bcast_S_S16x1024 (constantI S_ 32 1#32)))

/-- An update of the border is the bumped distance of the first row. -/
theorem upd_at (dm : IVec S16x1024x1024 32) (b : Fin 16) (x : Fin 1024) : upd dm (ix2 b x) = bump (dm (ix3 b 0 x)) := by
  unfold upd bump; pointwise []; rfl

/-- The augmented distances, as the reference's four scatters make them. -/
def augmented (dm : IVec S16x1024x1024 32) : IVec S16x1025x1025 32 :=
  Host.scatter entryDims (fun _ b => b) (Host.scatter blockDims (fun _ b => b) (Host.scatter colDims (fun _ b => b)
    (Host.scatter rowDims (fun _ b => b) (broadcastInDim S16x1025x1025 ![] bcast_S_S16x1025x1025 (constantI S_ 32 100000000#32))
      (pair 0#32 1#32) (upd dm)) (pair 1#32 0#32) (upd dm)) (pair 1#32 1#32) dm) (pair 0#32 0#32)
    (broadcastInDim S16 ![] bcast_S_S16 (constantI S_ 32 0#32))

/-- The augmented distances, entry by entry. -/
def augAt (dm : IVec S16x1024x1024 32) (b : Fin 16) (y z : Fin 1025) : BitVec 32 :=
  if h0 : y.val = 0 ∧ z.val = 0 then 0#32
  else if h1 : 1 ≤ y.val ∧ 1 ≤ z.val then dm (ix3 b ⟨y.val - 1, by have := y.isLt; omega⟩ ⟨z.val - 1, by have := z.isLt; omega⟩)
  else if h2 : 1 ≤ y.val then bump (dm (ix3 b 0 ⟨y.val - 1, by have := y.isLt; omega⟩))
  else bump (dm (ix3 b 0 ⟨z.val - 1, by have := z.isLt; omega⟩))

/-- The scatters' array at an element is the augmented distance. -/
theorem augmented_at (dm : IVec S16x1024x1024 32) (b : Fin 16) (y z : Fin 1025) : augmented dm (ix3 b y z) = augAt dm b y z := by
  unfold augmented augAt
  rw [entry_set]
  split
  · rfl
  rw [block_set]
  split
  · rfl
  rw [col_set]
  split
  · next h => rw [dif_pos h.1, upd_at]
  · next h1 h2 h3 =>
    rw [dif_neg (by omega), row_set, dif_pos (by omega), upd_at]

end Cert.ReferenceIdeal.Own

end
-- ==== Proof.Table.lean ====
/- The reference's bias, element by element: the network's six scalars as sums over the extended reals, the table that they
   and a last zero make, and the position that a distance is looked up at. -/
module

public import proofs.«01_k».proof.Proof.Ref

@[expose] public section

set_option maxRecDepth 16384

noncomputable section

namespace Cert.ReferenceIdeal.Own

open Cert.ReferenceIdeal Cert.ReferenceIdeal.Gen
open Idealize.ShloMosaic Idealize.ShloMosaic.TcCoe

/-! ## The six scalars and the table -/

/-- Scalar `k` of the network: the codebook's row `k` through the hidden layer of 256 units, rectified, weighted, summed and
    shifted. -/
def node (cb : FVec Ideal S6x128 .f32) (w1 : FVec Ideal S128x256 .f32) (b1 : FVec Ideal S256 .f32) (w2 : FVec Ideal S256x1 .f32)
    (b2 : FVec Ideal S1 .f32) (k : Fin 6) : EReal :=
  (∑ h : Fin 256, max ((∑ l : Fin 128, cb (ix2 k l) * w1 (ix2 l h)) + b1 (ix1 h)) 0 * w2 (ix2 h 0)) + b2 (ix1 0)

/-- The bias of an augmented distance: the scalar of its bin, zero past the bins. -/
def look (s : Fin 6 → EReal) (x : BitVec 32) : EReal :=
  if x = 9999#32 then s 5 else if x = 0#32 then s 0 else if x = 1#32 then s 1 else if x = 2#32 then s 2
  else if x = 3#32 then s 3 else if x = 4#32 then s 4 else 0

/-- The reference's table: the six scalars and a zero. -/
def lut (cb : FVec Ideal S6x128 .f32) (w1 : FVec Ideal S128x256 .f32) (b1 : FVec Ideal S256 .f32) (w2 : FVec Ideal S256x1 .f32)
    (b2 : FVec Ideal S1 .f32) : FVec Ideal S7 .f32 :=
  concatenate S7 0 [⟨S6, (shapeCast _ (addf (Host.dotGeneral dot_S6x256_S256x1_S6x1_1_0_0_1_n_n none (maximumf (addf (Host.dotGeneral dot_S6x128_S128x256_S6x256_1_0_0_1_n_n none cb w1) (broadcastInDim S6x256 ![0, 1] bcast_S1x256_S6x256_0_1 (broadcastInDim S1x256 ![1] bcast_S256_S1x256_1 b1))) (broadcastInDim S6x256 ![] bcast_S_S6x256 (constant S_ .f32 0x00000000#32))) w2) (broadcastInDim S6x1 ![0, 1] bcast_S1x1_S6x1_0_1 (broadcastInDim S1x1 ![1] bcast_S1_S1x1_1 b2))) shapeCasts_S6x1_S6)⟩, ⟨S1, (broadcastInDim S1 ![] bcast_S_S1 (constant S_ .f32 0x00000000#32))⟩] concatenates_S6_S1_S7_d0

/-- The table at an entry: a scalar, or the last zero. -/
theorem lut_at (cb : FVec Ideal S6x128 .f32) (w1 : FVec Ideal S128x256 .f32) (b1 : FVec Ideal S256 .f32) (w2 : FVec Ideal S256x1 .f32)
    (b2 : FVec Ideal S1 .f32) (k : Fin 7) :
    lut cb w1 b1 w2 b2 (ix1 k) = if h : k.val < 6 then node cb w1 b1 w2 b2 ⟨k.val, h⟩ else 0 := by
  unfold lut node
  pointwise []

/-! ## The position looked up -/

/-- The bin of an augmented distance. -/
def binAt (x : BitVec 32) : BitVec 32 :=
  Scalar.select (IntOp.cmpi .eq x 9999#32) 5#32 (Scalar.select (IntOp.cmpi .slt x 5#32) x 6#32)
/-- jnp's reading of a negative position from the table's end. -/
def wrapAt (x : BitVec 32) : BitVec 32 := Scalar.select (IntOp.cmpi .slt x 0#32) (IntOp.addi x 7#32) x

/-- The bins of all the augmented distances. -/
abbrev bins (D : IVec S16x1025x1025 32) : IVec S16x1025x1025 32 :=
  select (cmpi .eq D (broadcastInDim S16x1025x1025 ![] bcast_S_S16x1025x1025 (constantI S_ 32 9999#32)))
    (broadcastInDim S16x1025x1025 ![] bcast_S_S16x1025x1025 (id (constantI S_ 32 5#32)))
    (select (cmpi .slt D (broadcastInDim S16x1025x1025 ![] bcast_S_S16x1025x1025 (constantI S_ 32 5#32))) D
      (broadcastInDim S16x1025x1025 ![] bcast_S_S16x1025x1025 (id (constantI S_ 32 6#32))))

/-- The positions of the lookup, an axis of one word added. -/
def positions (D : IVec S16x1025x1025 32) : IVec S16x1025x1025x1 32 :=
  broadcastInDim S16x1025x1025x1 ![0, 1, 2] bcast_S16x1025x1025_S16x1025x1025x1_0_1_2
    (select (cmpi .slt (bins D) (broadcastInDim S16x1025x1025 ![] bcast_S_S16x1025x1025 (constantI S_ 32 0#32)))
      (addi (bins D) (broadcastInDim S16x1025x1025 ![] bcast_S_S16x1025x1025 (constantI S_ 32 7#32))) (bins D))

/-- The position looked up at an element. -/
theorem positions_at (D : IVec S16x1025x1025 32) (b : Fin 16) (y z : Fin 1025) :
    positions D (ix4 b y z 0) = wrapAt (binAt (D (ix3 b y z))) := by
  unfold positions wrapAt binAt
  pointwise []
  rfl

/-- The gather reads the table at its position, clamped to the table. -/
theorem gather_at (x : FVec Ideal S7 .f32) (I : IVec S16x1025x1025x1 32) (b : Fin 16) (y z : Fin 1025) :
    Host.gather gather_S7_S16x1025x1025x1_S16x1025x1025_n_0_n_n_0_3_1 x I (ix3 b y z)
      = x (ix1 ⟨min (I (ix4 b y z 0)).toInt.toNat 6, by omega⟩) := by
  unfold Host.gather
  refine congrArg x (funext fun a => ?_)
  obtain rfl : a = 0 := Subsingleton.elim _ _
  apply Fin.ext
  have e : GatherDims.siIdx gather_S7_S16x1025x1025x1_S16x1025x1025_n_0_n_n_0_3_1 (ix3 b y z) ⟨0, by decide⟩ = ix4 b y z 0 := by
    funext k
    fin_cases k <;> rfl
  show _ = min (I (ix4 b y z 0)).toInt.toNat 6
  rw [← e]
  rfl

/-- The position of a nonnegative distance: its bin. -/
theorem position_of (x : BitVec 32) (h : 0 ≤ x.toInt) :
    min (wrapAt (binAt x)).toInt.toNat 6 = if x = 9999#32 then 5 else if x.toInt < 5 then x.toNat else 6 := by
  have e : x.toInt = x.toNat := by rw [BitVec.toInt_eq_toNat_cond] at h ⊢; split at h <;> omega
  unfold wrapAt binAt
  by_cases h9 : x = 9999#32
  · subst h9; decide
  · have hne : IntOp.cmpi .eq x 9999#32 = 0#1 := by
      simp [IntOp.cmpi, beq_eq_false_iff_ne.mpr h9]
    rw [if_neg h9, hne]
    by_cases h5 : x.toInt < 5
    · have hlt : IntOp.cmpi .slt x 5#32 = 1#1 := by
        simp [IntOp.cmpi, BitVec.slt, show (5#32 : BitVec 32).toInt = 5 from rfl, h5]
      have h0 : IntOp.cmpi .slt x 0#32 = 0#1 := by
        simp [IntOp.cmpi, BitVec.slt, decide_eq_false (not_lt.mpr h)]
      rw [if_pos h5, hlt]
      simp only [Scalar.select]
      simp [h0]
      omega
    · have hlt : IntOp.cmpi .slt x 5#32 = 0#1 := by
        simp [IntOp.cmpi, BitVec.slt, show (5#32 : BitVec 32).toInt = 5 from rfl, decide_eq_false h5]
      have six : Scalar.select (0#1) 5#32 (Scalar.select (0#1) x 6#32) = 6#32 := rfl
      rw [if_neg h5, hlt, six]
      decide

/-- A nonnegative distance looked up in the table. -/
theorem lookup (s : Fin 6 → EReal) (x : BitVec 32) (h : 0 ≤ x.toInt) :
    (if h : min (wrapAt (binAt x)).toInt.toNat 6 < 6 then s ⟨min (wrapAt (binAt x)).toInt.toNat 6, h⟩ else 0) = look s x := by
  have e : x.toInt = x.toNat := by rw [BitVec.toInt_eq_toNat_cond] at h ⊢; split at h <;> omega
  have key := position_of x h
  have eqs : ∀ n : ℕ, n < 5 → (x = BitVec.ofNat 32 n ↔ x.toNat = n) := fun n hn =>
    ⟨fun hx => by rw [hx]; simp; omega, fun hx => by rw [← hx]; simp⟩
  generalize min (wrapAt (binAt x)).toInt.toNat 6 = p at key ⊢
  subst key
  unfold look
  have e0 := eqs 0 (by omega)
  have e1 := eqs 1 (by omega)
  have e2 := eqs 2 (by omega)
  have e3 := eqs 3 (by omega)
  have e4 := eqs 4 (by omega)
  by_cases h9 : x = 9999#32
  · simp [h9]
  · simp only [h9, if_false]
    by_cases h5 : x.toInt < 5
    · simp only [h5, if_true]
      rw [if_congr e0 rfl rfl, if_congr e1 rfl rfl, if_congr e2 rfl rfl, if_congr e3 rfl rfl, if_congr e4 rfl rfl]
      have : x.toNat < 5 := by omega
      generalize x.toNat = n at this ⊢
      interval_cases n <;> simp
    · simp only [h5, if_false]
      rw [if_congr e0 rfl rfl, if_congr e1 rfl rfl, if_congr e2 rfl rfl, if_congr e3 rfl rfl, if_congr e4 rfl rfl]
      simp
      repeat rw [if_neg (by omega)]

/-- The reference's bias as a lookup in its table. -/
theorem res_eq (m : (ℓ : Loc nD τ sig) → Buf (Elt Ideal) ℓ) (c : Dev nD) :
    Value.res_main_v53 m c = Host.gather gather_S7_S16x1025x1025x1_S16x1025x1025_n_0_n_n_0_3_1
      (lut (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)))
      (positions (augmented (m ((c.tc : Thread nD τ).loc main_arg2)))) := by
  unfold Value.res_main_v53
  rfl

/-- The reference's bias at an element whose augmented distance is not negative. -/
theorem res_at (m : (ℓ : Loc nD τ sig) → Buf (Elt Ideal) ℓ) (c : Dev nD) (b : Fin 16) (y z : Fin 1025)
    (h : 0 ≤ (augAt (m ((c.tc : Thread nD τ).loc main_arg2)) b y z).toInt) :
    Value.res_main_v53 m c (ix3 b y z)
      = look (node (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)))
        (augAt (m ((c.tc : Thread nD τ).loc main_arg2)) b y z) := by
  rw [res_eq, gather_at, lut_at, ← lookup _ _ h]
  simp only [positions_at, augmented_at]

end Cert.ReferenceIdeal.Own

end
-- ==== Proof.Scalars.lean ====
/- The kernel's six scalars over the extended reals are the reference's: there the roundings to bfloat16 are the identity,
   the hidden layer is one product of matrices on either side, and the sum of weighted units is the second product. -/
module

public import proofs.«01_k».proof.Proof.Blocks
public import proofs.«01_k».proof.Proof.Table

@[expose] public section

set_option maxRecDepth 16384

noncomputable section

namespace Cert.KernelIdeal.Own

open Cert.KernelIdeal Cert.KernelIdeal.Gen
open Idealize.ShloMosaic Idealize.ShloMosaic.TcCoe
open Cert.ReferenceIdeal.Own (node look bump)

variable (A : Arr Ideal) (b1 : FVec Ideal S256 .f32) (w2 : FVec Ideal S256x1 .f32) (b2 : FVec Ideal S1 .f32)

/-- The kernel's column of scalars. -/
theorem nodes_at (h1 : ∀ h, A.b1 (ix2 0 h) = b1 (ix1 h)) (h2 : ∀ h, A.w2 (ix2 0 h) = w2 (ix2 h 0))
    (h3 : A.b2 (ix2 0 0) = b2 (ix1 0)) (k : Fin 6) :
    k0_pay8 A.hid A.b2 (ix2 k 0) = node A.cb A.w1 b1 w2 b2 k := by
  unfold Arr.hid node
  pointwise [k0_pay7, k0_pay8]
  simp only [h1, h2, h3]

/-- The six scalars are the entries of the column. -/
theorem nodes_taken (X : FVec Ideal S6x256 .f32) (y : FVec Ideal S1x1 .f32) :
    k0_pay9 X y = k0_pay8 X y (ix2 0 0) ∧ k0_pay10 X y = k0_pay8 X y (ix2 1 0) ∧ k0_pay11 X y = k0_pay8 X y (ix2 2 0)
      ∧ k0_pay12 X y = k0_pay8 X y (ix2 3 0) ∧ k0_pay13 X y = k0_pay8 X y (ix2 4 0) ∧ k0_pay14 X y = k0_pay8 X y (ix2 5 0) := by
  unfold k0_pay9 k0_pay10 k0_pay11 k0_pay12 k0_pay13 k0_pay14
  generalize k0_pay8 X y = Z
  refine ⟨?_, ?_, ?_, ?_, ?_, ?_⟩ <;> (unfold extractAt; pointwise [])

/-- A choice by equality of words is an `if`. -/
theorem select_eq {α : Type} (x a : BitVec 32) (p q : α) : Scalar.select (Scalar.cmpi .eq x a) p q = if x = a then p else q := by
  unfold Scalar.select Scalar.cmpi IntOp.cmpi
  by_cases h : x = a
  · simp [h]
  · simp [h, beq_eq_false_iff_ne.mpr h]

/-- Off the border the kernel looks the distance up. -/
theorem interior_look (s : Fin 6 → EReal) (x : BitVec 32) :
    interior (F := Ideal) (s 0) (s 1) (s 2) (s 3) (s 4) (s 5) x = look s x := by
  unfold interior look
  pointwise []
  simp only [select_eq]

/-- The border's distance: one more, but that 9999 stays. -/
theorem bump_eq (x : BitVec 32) : bump x = if x = 9999#32 then 9999#32 else x + 1#32 := select_eq _ _ _ _

/-- On the border the kernel looks the bumped distance up, by bins moved by one: the same, where adding one gives neither
    9999 nor zero. -/
theorem border_look (s : Fin 6 → EReal) (x : BitVec 32) (h0 : 0 ≤ x.toInt) (h1 : x ≠ 9998#32) :
    border (F := Ideal) (s 1) (s 2) (s 3) (s 4) (s 5) x = look s (bump x) := by
  have e : ∀ a : BitVec 32, x + 1#32 = a ↔ x = a - 1#32 := fun a =>
    ⟨fun h => by rw [← h]; simp, fun h => by rw [h]; simp⟩
  have hm : x ≠ 4294967295#32 := by rintro rfl; exact absurd h0 (by decide)
  rw [bump_eq]
  unfold border look
  pointwise []
  simp only [select_eq]
  by_cases h : x = 9999#32
  · simp [h]
  · simp only [h, if_false, e]
    simp [h1, hm]

/-- A bumped distance is nonnegative where the distance is and is not the greatest. -/
theorem bump_nonneg (x : BitVec 32) (h0 : 0 ≤ x.toInt) (h1 : x ≠ 2147483647#32) : 0 ≤ (bump x).toInt := by
  have h1' : x.toNat ≠ 2147483647 := fun h => h1 (BitVec.eq_of_toNat_eq h)
  rw [bump_eq]
  split
  · decide
  · rw [BitVec.toInt_eq_toNat_cond] at h0 ⊢
    rw [BitVec.toNat_add]
    have : (1#32 : BitVec 32).toNat = 1 := rfl
    split at h0 <;> split <;> omega

end Cert.KernelIdeal.Own

end
-- ==== Proof.Algebra.lean ====
/- The value claim: over the extended reals, on distances in range, the kernel's three results are the reference's. -/
module

public import proofs.«01_k».proof.Proof.Final
public import proofs.«01_k».proof.Proof.Scalars
public import Idealize.ShloMosaic.Lib.ReduceAll

@[expose] public section

set_option maxRecDepth 16384

noncomputable section

namespace Cert.Proof

open Idealize.ShloMosaic Idealize.ShloMosaic.TcCoe Idealize.SL.Sem
open Cert.KernelIdeal (S16x1024x1024)
open Cert.KernelIdeal.Own (Arr arrOf featArr biasArr)
open Cert.ReferenceIdeal.Own (node look bump augAt)

/-- What the precondition says of every distance. -/
theorem in_range (a0 : FVec Ideal Cert.KernelIdeal.S16x1024x128 .f32) (a1 : IVec Cert.KernelIdeal.S16x1024 1) (dm : IVec S16x1024x1024 32)
    (a3 : FVec Ideal Cert.KernelIdeal.S1x1x128 .f32) (a4 : FVec Ideal Cert.KernelIdeal.S6x128 .f32) (a5 : FVec Ideal Cert.KernelIdeal.S128x256 .f32)
    (a6 : FVec Ideal Cert.KernelIdeal.S256 .f32) (a7 : FVec Ideal Cert.KernelIdeal.S256x1 .f32) (a8 : FVec Ideal Cert.KernelIdeal.S1 .f32)
    (h : Cert.Pre_distances_in_range.fn a0 a1 dm a3 a4 a5 a6 a7 a8 = fun _ => 1#1) (i : S16x1024x1024.Idx) :
    0 ≤ (dm i).toInt ∧ dm i ≠ 9998#32 ∧ dm i ≠ 2147483647#32 := by
  have key := Host.reduce_andi_all _ _ _ _ ix0 (congrFun h ix0) i
  have key' : IntOp.andi (IntOp.andi (IntOp.cmpi .sge (dm i) 0#32) (IntOp.cmpi .ne (dm i) 9998#32)) (IntOp.cmpi .ne (dm i) 2147483647#32) = 1#1 := key
  generalize dm i = x at key' ⊢
  have split : ∀ p q : BitVec 1, IntOp.andi p q = 1#1 → p = 1#1 ∧ q = 1#1 := by decide
  obtain ⟨k1, k3⟩ := split _ _ key'
  obtain ⟨k1, k2⟩ := split _ _ k1
  refine ⟨?_, ?_, ?_⟩
  · by_contra hn
    have : IntOp.cmpi .sge x 0#32 = 0#1 := by
      simp [IntOp.cmpi, BitVec.sle, decide_eq_false hn]
    rw [this] at k1
    exact absurd k1 (by decide)
  · rintro rfl
    exact absurd k2 (by decide)
  · rintro rfl
    exact absurd k3 (by decide)

section Values

open Cert.KernelIdeal

variable (m : (ℓ : Loc nD τ sig) → Buf (Elt Ideal) ℓ) (c : Dev nD)

/-- The features' array at an element: the test token's row, then the features. -/
theorem feat_eq (b : Fin 16) (p : Fin 1025) (l : Fin 128) :
    featArr m c (ix3 p b l) = if h : p.val = 0 then m ((c.tc : Thread nD τ).loc main_arg3) (ix3 0 0 l)
      else m ((c.tc : Thread nD τ).loc main_arg0) (ix3 b ⟨p.val - 1, by have := p.isLt; omega⟩ l) := by
  show (arrOf m c).featAt p b l = _
  unfold Arr.featAt arrOf
  rw [Gen.V_main_arg3, Gen.V_main_arg0]

/-- The network's scalars, of the arguments. -/
abbrev scalars : Fin 6 → EReal :=
  node (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8))

/-- The kernel's column of scalars is the network's, of the arguments. -/
theorem scalars_eq (k : Fin 6) : Gen.k0_pay8 (arrOf m c).hid (arrOf m c).b2 (ix2 k 0) = scalars m c k := by
  have e4 : (arrOf m c).cb = m ((c.tc : Thread nD τ).loc main_arg4) := Gen.V_main_arg4 m c
  have e5 : (arrOf m c).w1 = m ((c.tc : Thread nD τ).loc main_arg5) := Gen.V_main_arg5 m c
  unfold scalars
  rw [← e4, ← e5]
  exact Cert.KernelIdeal.Own.nodes_at (arrOf m c) _ _ _ (Own.b1_at m c) (Own.w2_at m c) (Own.b2_at m c) k

/-- The bias's array at an element, on distances in range: the augmented distance looked up. -/
theorem bias_eq (hr : ∀ i, 0 ≤ ((m ((c.tc : Thread nD τ).loc main_arg2) : IVec S16x1024x1024 32) i).toInt
      ∧ (m ((c.tc : Thread nD τ).loc main_arg2) : IVec S16x1024x1024 32) i ≠ 9998#32
      ∧ (m ((c.tc : Thread nD τ).loc main_arg2) : IVec S16x1024x1024 32) i ≠ 2147483647#32) (b : Fin 16) (p q : Fin 1025) :
    biasArr m c (ix3 p b q) = look (scalars m c) (augAt (m ((c.tc : Thread nD τ).loc main_arg2)) b p q) := by
  have e2 : (arrOf m c).dm = m ((c.tc : Thread nD τ).loc main_arg2) := Gen.V_main_arg2 m c
  obtain ⟨n0, n1, n2, n3, n4, n5⟩ := Own.nodes_taken (arrOf m c).hid (arrOf m c).b2
  rw [scalars_eq] at n0 n1 n2 n3 n4 n5
  have edge : ∀ x : BitVec 32, 0 ≤ x.toInt → x ≠ 9998#32 → (arrOf m c).edge x = look (scalars m c) (bump x) := fun x h0 h1 => by
    unfold Arr.edge
    rw [n1, n2, n3, n4, n5]
    exact Own.border_look _ x h0 h1
  have inside : ∀ (b : Fin 16) (p q : Fin 1024), (arrOf m c).inAt b p q = look (scalars m c) ((arrOf m c).dm (ix3 b p q)) := fun b p q => by
    unfold Arr.inAt
    rw [n0, n1, n2, n3, n4, n5]
    exact Own.interior_look _ _
  show (arrOf m c).biasAt p b q = _
  unfold Arr.biasAt augAt
  by_cases hp : p.val = 0
  · by_cases hq : q.val = 0
    · rw [dif_pos hp, dif_pos hq, dif_pos ⟨hp, hq⟩, n0]
      rfl
    · rw [dif_pos hp, dif_neg hq, dif_neg (by omega), dif_neg (by omega), dif_neg (by omega), e2]
      exact edge _ (hr _).1 (hr _).2.1
  · by_cases hq : q.val = 0
    · rw [dif_neg hp, dif_pos hq, dif_neg (by omega), dif_neg (by omega), dif_pos (by omega), Own.r0_at]
      exact edge _ (hr _).1 (hr _).2.1
    · rw [dif_neg hp, dif_neg hq, dif_neg (by omega), dif_pos (by omega), inside, e2]

/-- An augmented distance is nonnegative where the distances are in range. -/
theorem aug_nonneg (dm : IVec S16x1024x1024 32) (hr : ∀ i, 0 ≤ (dm i).toInt ∧ dm i ≠ 9998#32 ∧ dm i ≠ 2147483647#32)
    (b : Fin 16) (p q : Fin 1025) : 0 ≤ (augAt dm b p q).toInt := by
  unfold augAt
  split
  · decide
  · split
    · exact (hr _).1
    · split <;> exact Own.bump_nonneg _ (hr _).1 (hr _).2.2

end Values

/-- On distances in range the kernel and the reference end with the same three results. -/
theorem algebraic : Cert.algebraic_KernelIdeal_ReferenceIdeal_pre_distances_in_range := fun m g m' g' hpre hargs => by
  refine ⟨_, _, _, Cert.KernelIdeal.Own.run_values m g,
    (θ_run (Cert.ReferenceIdeal.defs (F := Ideal)) _ _).mono (fun r h c => ?_) (Cert.ReferenceIdeal.Value.run (F := Ideal) m' g')⟩
  obtain ⟨a0, a1, a2, a3, a4, a5, a6, a7, a8⟩ := hargs c
  have hr := in_range _ _ _ _ _ _ _ _ _ (hpre c)
  refine ⟨(h c).1.trans ?_, (h c).2.1.trans ?_, (h c).2.2.1.trans ?_, (h c).2.2.2⟩
  · funext j
    obtain ⟨b, p, l, rfl⟩ : ∃ (b : Fin 16) (p : Fin 1025) (l : Fin 128), j = ix3 b p l := ⟨j 0, j 1, j 2, eq_ix3 j⟩
    rw [a0, a3]
    refine Eq.trans ?_ (Eq.trans (feat_eq m c b p l).symm ?_)
    · pointwise []
      by_cases hp : p.val = 0
      · rw [dif_pos hp, dif_pos (by omega)]
      · rw [dif_neg hp, dif_neg (by omega)]
    · pointwise []
  · rw [a1]
  · funext j
    obtain ⟨b, p, q, rfl⟩ : ∃ (b : Fin 16) (p q : Fin 1025), j = ix3 b p q := ⟨j 0, j 1, j 2, eq_ix3 j⟩
    refine (Cert.ReferenceIdeal.Own.res_at m' c b p q ?_).trans ?_
    · rw [a2]; exact aug_nonneg _ hr b p q
    · rw [a2, a4, a5, a6, a7, a8]
      refine Eq.trans (bias_eq m c hr b p q).symm ?_
      pointwise []

end Cert.Proof

end
-- ==== Proof.lean ====
/- The certificate: the frames of the kernel, of its ideal reading and of the reference, that the ideal reading rewrote
   nothing, and that over the extended reals the kernel's three results are the reference's. -/
module

public import proofs.«01_k».proof.Defs
public import proofs.«01_k».proof.Proof.Frames
public import proofs.«01_k».proof.Proof.Algebra
public import proofs.«01_k».proof.Proof.Gen.Kernel
public import proofs.«01_k».proof.Proof.Gen.KernelIdeal
public import proofs.«01_k».proof.Proof.Gen.ReferenceIdeal

@[expose] public section

noncomputable section

namespace Cert.Proof

/-- Every claim of the certificate. -/
theorem claim : Cert.Claim := ⟨Cert.Kernel.Gen.facts, Cert.KernelIdeal.Gen.facts, Cert.ReferenceIdeal.Gen.facts,
  Cert.Pre_distances_in_range.Own.facts, frame_Kernel, frame_KernelIdeal, frame_KernelIdeal_pre, frame_ReferenceIdeal,
  frame_ReferenceIdeal_pre, trivial, algebraic⟩

end Cert.Proof

end
